-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S16384x256x1 : Shape := ⟨3, ![16384, 256, 1]⟩
abbrev S_ : Shape := ⟨0, ![]⟩

class Facts : Prop where
  bcast_S_S16384x256x1 : S_.BroadcastsInDim S16384x256x1 (![] : Fin 0 → Fin S16384x256x1.rank)
  reducesTo_S16384x256x1_S_d0_1_2 : S16384x256x1.ReducesTo [0, 1, 2] S_
  h_S_ : 0 < S_.numel

variable [Facts]

def fn {F : FTy → Type} [FloatOps F] (main_arg0 : FVec F S16384x256x1 .f32) (main_arg1 : FVec F S16384x256x1 .f32) (main_arg2 : FVec F S16384x256x1 .f32) : IVec S_ 1 :=
  let main_cst : FVec F S_ .f32 := constant S_ .f32 0x00000000#32
  let main_v0 : FVec F S16384x256x1 .f32 := broadcastInDim S16384x256x1 ![] bcast_S_S16384x256x1 main_cst
  let main_v1 : IVec S16384x256x1 1 := cmpf .oge main_arg0 main_v0
  let main_c : IVec S_ 1 := constantI S_ 1 1#1
  let main_v2 : IVec S_ 1 := (fun x v => Host.reduce IntOp.andi x v reducesTo_S16384x256x1_S_d0_1_2 h_S_) main_v1 main_c
  let main_cst_0 : FVec F S_ .f32 := constant S_ .f32 0x7F800000#32
  let main_v3 : FVec F S16384x256x1 .f32 := broadcastInDim S16384x256x1 ![] bcast_S_S16384x256x1 main_cst_0
  let main_v4 : IVec S16384x256x1 1 := cmpf .olt main_arg0 main_v3
  let main_c_1 : IVec S_ 1 := constantI S_ 1 1#1
  let main_v5 : IVec S_ 1 := (fun x v => Host.reduce IntOp.andi x v reducesTo_S16384x256x1_S_d0_1_2 h_S_) main_v4 main_c_1
  let main_v6 : IVec S_ 1 := andi main_v2 main_v5
  main_v6
-- ==== Kernel.lean ====
abbrev S16384x256x1 : Shape := ⟨3, ![16384, 256, 1]⟩
abbrev S16384x256 : Shape := ⟨2, ![16384, 256]⟩
abbrev S4194304 : Shape := ⟨1, ![4194304]⟩
abbrev S16384 : Shape := ⟨1, ![16384]⟩
abbrev S512x16 : Shape := ⟨2, ![512, 16]⟩
abbrev S16x240 : Shape := ⟨2, ![16, 240]⟩
abbrev S4x128 : Shape := ⟨2, ![4, 128]⟩
abbrev S512 : Shape := ⟨1, ![512]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S16384x1 : Shape := ⟨2, ![16384, 1]⟩

abbrev nBuf : Table → Nat
  | .hbm => 8
  | .local .scVector .vmem => 7
  | _ => 0

abbrev bufTy : (tb : Table) → Fin (nBuf tb) → BufTy
  | .hbm, ⟨0, _⟩ => ⟨S16384x256x1, .f32⟩
  | .hbm, ⟨1, _⟩ => ⟨S16384x256x1, .f32⟩
  | .hbm, ⟨2, _⟩ => ⟨S16384x256x1, .f32⟩
  | .hbm, ⟨3, _⟩ => ⟨S16384x256, .f32⟩
  | .hbm, ⟨4, _⟩ => ⟨S4194304, .f32⟩
  | .hbm, ⟨5, _⟩ => ⟨S4194304, .f32⟩
  | .hbm, ⟨6, _⟩ => ⟨S16384, .f32⟩
  | .hbm, ⟨7, _⟩ => ⟨S16384x1, .f32⟩
  | .local .scVector .vmem, ⟨0, _⟩ => ⟨S512x16, .f32⟩
  | .local .scVector .vmem, ⟨1, _⟩ => ⟨S16x240, .f32⟩
  | .local .scVector .vmem, ⟨2, _⟩ => ⟨S4x128, .i32⟩
  | .local .scVector .vmem, ⟨3, _⟩ => ⟨S4x128, .i32⟩
  | .local .scVector .vmem, ⟨4, _⟩ => ⟨S4x128, .f32⟩
  | .local .scVector .vmem, ⟨5, _⟩ => ⟨S4x128, .f32⟩
  | .local .scVector .vmem, ⟨6, _⟩ => ⟨S512, .f32⟩
  | _, _ => ⟨S16384x256x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_89_r0 : BitVec 32 := 0#32
  ![v2.toNat, 0]
@[reducible] def k0_t1_loop : Scf.Loop 32 :=
  let c0_i32_1 : BitVec 32 := 0#32
  let c32_i32 : BitVec 32 := 32#32
  let v7 : BitVec 32 := Scalar.addi c0_i32_1 c32_i32
  let c1_i32_2 : BitVec 32 := 1#32
  ⟨c0_i32_1, v7, c1_i32_2⟩

def k0_chk1 (v94 : IVec S16 32) (v95 : IVec S16 32) : Prop :=
  (∀ a x, ((![v94, v95] : Fin 2 → IVec S16 32) a x).toNat < S512x16.size a)
theorem k0_idx1_inb : ∀ (v94 : IVec S16 32) (v95 : IVec S16 32) (k0_hw1 : k0_chk1 v94 v95), ∀ a x, ((![v94, v95] : Fin 2 → IVec S16 32) a x).toNat < S512x16.size a := fun v94 v95 k0_hw1 => k0_hw1

def k0_chk2 (v94 : IVec S16 32) (v99 : IVec S16 32) : Prop :=
  (∀ a x, ((![v94, v99] : Fin 2 → IVec S16 32) a x).toNat < S512x16.size a)
theorem k0_idx2_inb : ∀ (v94 : IVec S16 32) (v99 : IVec S16 32) (k0_hw2 : k0_chk2 v94 v99), ∀ a x, ((![v94, v99] : Fin 2 → IVec S16 32) a x).toNat < S512x16.size a := fun v94 v99 k0_hw2 => k0_hw2

def k0_chk3 (v94 : IVec S16 32) (v105 : IVec S16 32) : Prop :=
  (∀ a x, ((![v94, v105] : Fin 2 → IVec S16 32) a x).toNat < S512x16.size a)
theorem k0_idx3_inb : ∀ (v94 : IVec S16 32) (v105 : IVec S16 32) (k0_hw3 : k0_chk3 v94 v105), ∀ a x, ((![v94, v105] : Fin 2 → IVec S16 32) a x).toNat < S512x16.size a := fun v94 v105 k0_hw3 => k0_hw3

def k0_chk4 (v94 : IVec S16 32) (v111 : IVec S16 32) : Prop :=
  (∀ a x, ((![v94, v111] : Fin 2 → IVec S16 32) a x).toNat < S512x16.size a)
theorem k0_idx4_inb : ∀ (v94 : IVec S16 32) (v111 : IVec S16 32) (k0_hw4 : k0_chk4 v94 v111), ∀ a x, ((![v94, v111] : Fin 2 → IVec S16 32) a x).toNat < S512x16.size a := fun v94 v111 k0_hw4 => k0_hw4

def k0_chk5 (v94 : IVec S16 32) (v117 : IVec S16 32) : Prop :=
  (∀ a x, ((![v94, v117] : Fin 2 → IVec S16 32) a x).toNat < S512x16.size a)
theorem k0_idx5_inb : ∀ (v94 : IVec S16 32) (v117 : IVec S16 32) (k0_hw5 : k0_chk5 v94 v117), ∀ a x, ((![v94, v117] : Fin 2 → IVec S16 32) a x).toNat < S512x16.size a := fun v94 v117 k0_hw5 => k0_hw5

def k0_chk6 (v94 : IVec S16 32) (v123 : IVec S16 32) : Prop :=
  (∀ a x, ((![v94, v123] : Fin 2 → IVec S16 32) a x).toNat < S512x16.size a)
theorem k0_idx6_inb : ∀ (v94 : IVec S16 32) (v123 : IVec S16 32) (k0_hw6 : k0_chk6 v94 v123), ∀ a x, ((![v94, v123] : Fin 2 → IVec S16 32) a x).toNat < S512x16.size a := fun v94 v123 k0_hw6 => k0_hw6

def k0_chk7 (v94 : IVec S16 32) (v129 : IVec S16 32) : Prop :=
  (∀ a x, ((![v94, v129] : Fin 2 → IVec S16 32) a x).toNat < S512x16.size a)
theorem k0_idx7_inb : ∀ (v94 : IVec S16 32) (v129 : IVec S16 32) (k0_hw7 : k0_chk7 v94 v129), ∀ a x, ((![v94, v129] : Fin 2 → IVec S16 32) a x).toNat < S512x16.size a := fun v94 v129 k0_hw7 => k0_hw7

def k0_chk8 (v94 : IVec S16 32) (v135 : IVec S16 32) : Prop :=
  (∀ a x, ((![v94, v135] : Fin 2 → IVec S16 32) a x).toNat < S512x16.size a)
theorem k0_idx8_inb : ∀ (v94 : IVec S16 32) (v135 : IVec S16 32) (k0_hw8 : k0_chk8 v94 v135), ∀ a x, ((![v94, v135] : Fin 2 → IVec S16 32) a x).toNat < S512x16.size a := fun v94 v135 k0_hw8 => k0_hw8

def k0_chk9 (v94 : IVec S16 32) (v141 : IVec S16 32) : Prop :=
  (∀ a x, ((![v94, v141] : Fin 2 → IVec S16 32) a x).toNat < S512x16.size a)
theorem k0_idx9_inb : ∀ (v94 : IVec S16 32) (v141 : IVec S16 32) (k0_hw9 : k0_chk9 v94 v141), ∀ a x, ((![v94, v141] : Fin 2 → IVec S16 32) a x).toNat < S512x16.size a := fun v94 v141 k0_hw9 => k0_hw9

def k0_chk10 (v94 : IVec S16 32) (v147 : IVec S16 32) : Prop :=
  (∀ a x, ((![v94, v147] : Fin 2 → IVec S16 32) a x).toNat < S512x16.size a)
theorem k0_idx10_inb : ∀ (v94 : IVec S16 32) (v147 : IVec S16 32) (k0_hw10 : k0_chk10 v94 v147), ∀ a x, ((![v94, v147] : Fin 2 → IVec S16 32) a x).toNat < S512x16.size a := fun v94 v147 k0_hw10 => k0_hw10

def k0_chk11 (v94 : IVec S16 32) (v153 : IVec S16 32) : Prop :=
  (∀ a x, ((![v94, v153] : Fin 2 → IVec S16 32) a x).toNat < S512x16.size a)
theorem k0_idx11_inb : ∀ (v94 : IVec S16 32) (v153 : IVec S16 32) (k0_hw11 : k0_chk11 v94 v153), ∀ a x, ((![v94, v153] : Fin 2 → IVec S16 32) a x).toNat < S512x16.size a := fun v94 v153 k0_hw11 => k0_hw11

def k0_chk12 (v94 : IVec S16 32) (v159 : IVec S16 32) : Prop :=
  (∀ a x, ((![v94, v159] : Fin 2 → IVec S16 32) a x).toNat < S512x16.size a)
theorem k0_idx12_inb : ∀ (v94 : IVec S16 32) (v159 : IVec S16 32) (k0_hw12 : k0_chk12 v94 v159), ∀ a x, ((![v94, v159] : Fin 2 → IVec S16 32) a x).toNat < S512x16.size a := fun v94 v159 k0_hw12 => k0_hw12

def k0_chk13 (v94 : IVec S16 32) (v165 : IVec S16 32) : Prop :=
  (∀ a x, ((![v94, v165] : Fin 2 → IVec S16 32) a x).toNat < S512x16.size a)
theorem k0_idx13_inb : ∀ (v94 : IVec S16 32) (v165 : IVec S16 32) (k0_hw13 : k0_chk13 v94 v165), ∀ a x, ((![v94, v165] : Fin 2 → IVec S16 32) a x).toNat < S512x16.size a := fun v94 v165 k0_hw13 => k0_hw13

def k0_chk14 (v94 : IVec S16 32) (v171 : IVec S16 32) : Prop :=
  (∀ a x, ((![v94, v171] : Fin 2 → IVec S16 32) a x).toNat < S512x16.size a)
theorem k0_idx14_inb : ∀ (v94 : IVec S16 32) (v171 : IVec S16 32) (k0_hw14 : k0_chk14 v94 v171), ∀ a x, ((![v94, v171] : Fin 2 → IVec S16 32) a x).toNat < S512x16.size a := fun v94 v171 k0_hw14 => k0_hw14

def k0_chk15 (v94 : IVec S16 32) (v177 : IVec S16 32) : Prop :=
  (∀ a x, ((![v94, v177] : Fin 2 → IVec S16 32) a x).toNat < S512x16.size a)
theorem k0_idx15_inb : ∀ (v94 : IVec S16 32) (v177 : IVec S16 32) (k0_hw15 : k0_chk15 v94 v177), ∀ a x, ((![v94, v177] : Fin 2 → IVec S16 32) a x).toNat < S512x16.size a := fun v94 v177 k0_hw15 => k0_hw15

def k0_chk16 (v94 : IVec S16 32) (v183 : IVec S16 32) : Prop :=
  (∀ a x, ((![v94, v183] : Fin 2 → IVec S16 32) a x).toNat < S512x16.size a)
theorem k0_idx16_inb : ∀ (v94 : IVec S16 32) (v183 : IVec S16 32) (k0_hw16 : k0_chk16 v94 v183), ∀ a x, ((![v94, v183] : Fin 2 → IVec S16 32) a x).toNat < S512x16.size a := fun v94 v183 k0_hw16 => k0_hw16
def k0_off2 (k0_t1 : Fin k0_t1_loop.trips) : Fin 2 → Nat :=
  let c0_i32_1 : BitVec 32 := 0#32
  let c1_i32_2 : BitVec 32 := 1#32
  let arg14 : BitVec 32 := Scf.iv c0_i32_1 c1_i32_2 k0_t1
  let c0_i32_94 : BitVec 32 := 0#32
  let v190 : BitVec 1 := Scalar.cmpi .sgt arg14 c0_i32_94
  let v191 : BitVec 32 := Scalar.extui v190
  let c0_i32_95 : BitVec 32 := 0#32
  let v192 : BitVec 1 := Scalar.cmpi .slt arg14 c0_i32_95
  let v193 : BitVec 32 := Scalar.extui v192
  let v194 : BitVec 32 := Scalar.subi v191 v193
  let c8_i32_93 : BitVec 32 := 8#32
  let c0_i32_96 : BitVec 32 := 0#32
  let v195 : BitVec 1 := Scalar.cmpi .sgt c8_i32_93 c0_i32_96
  let v196 : BitVec 32 := Scalar.extui v195
  let c0_i32_97 : BitVec 32 := 0#32
  let v197 : BitVec 1 := Scalar.cmpi .slt c8_i32_93 c0_i32_97
  let v198 : BitVec 32 := Scalar.extui v197
  let v199 : BitVec 32 := Scalar.subi v196 v198
  let v200 : BitVec 1 := Scalar.cmpi .ne v194 v199
  let v201 : BitVec 32 := Scalar.remsi arg14 c8_i32_93
  let c0_i32_98 : BitVec 32 := 0#32
  let v202 : BitVec 1 := Scalar.cmpi .ne v201 c0_i32_98
  let v203 : BitVec 1 := Scalar.andi v200 v202
  let v189 : BitVec 32 := Scalar.divsi arg14 c8_i32_93
  let c1_i32_99 : BitVec 32 := 1#32
  let v204 : BitVec 32 := Scalar.subi v189 c1_i32_99
  let v205 : BitVec 32 := Scalar.select v203 v204 v189
  let v217 : Index := Scalar.indexCast v205
  let c8_i32_100 : BitVec 32 := 8#32
  let c0_i32_101 : BitVec 32 := 0#32
  let v206 : BitVec 1 := Scalar.cmpi .eq c8_i32_100 c0_i32_101
  let c1_i32_102 : BitVec 32 := 1#32
  let v207 : BitVec 32 := Scalar.select v206 c1_i32_102 c8_i32_100
  let v208 : BitVec 32 := Scalar.remsi arg14 v207
  let c0_i32_104 : BitVec 32 := 0#32
  let v210 : BitVec 1 := Scalar.cmpi .slt v208 c0_i32_104
  let c0_i32_105 : BitVec 32 := 0#32
  let v211 : BitVec 1 := Scalar.cmpi .slt v207 c0_i32_105
  let v212 : BitVec 1 := Scalar.xori v210 v211
  let c0_i32_103 : BitVec 32 := 0#32
  let v209 : BitVec 1 := Scalar.cmpi .ne v208 c0_i32_103
  let v213 : BitVec 1 := Scalar.andi v212 v209
  let v214 : BitVec 32 := Scalar.addi v208 v207
  let v215 : BitVec 32 := Scalar.select v213 v214 v208
  let c16_i32_106 : BitVec 32 := 16#32
  let v216 : BitVec 32 := Scalar.muli v215 c16_i32_106
  let v218 : Index := Scalar.indexCast v216
  ![v217.toNat, v218.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let c1_i32_2 : BitVec 32 := 1#32
  let arg14 : BitVec 32 := Scf.iv c0_i32_1 c1_i32_2 k0_t1
  let c16_i32 : BitVec 32 := 16#32
  let v92 : BitVec 32 := Scalar.muli arg14 c16_i32
  let v243 : BitVec 32 := Scalar.addi v2 v92
  let c16_i32_113_r1 : BitVec 32 := 16#32
  ![v243.toNat, 16]
@[reducible] def k0_t2_loop : Scf.Loop 32 :=
  let c0_i32_110 : BitVec 32 := 0#32
  let c240_i32 : BitVec 32 := 240#32
  let v244 : BitVec 32 := Scalar.addi c0_i32_110 c240_i32
  let c1_i32_111 : BitVec 32 := 1#32
  ⟨c0_i32_110, v244, c1_i32_111⟩
def k0_cond1 (v225 : BitVec 32) : BitVec 1 :=
  let c16_i32_107 : BitVec 32 := 16#32
  let v226 : BitVec 1 := Scalar.cmpi .sge v225 c16_i32_107
  let v227 : BitVec 32 := Scalar.extui v226
  let c0_i32_108 : BitVec 32 := 0#32
  let v228 : BitVec 1 := Scalar.cmpi .ne v227 c0_i32_108
  v228

def k0_chk17 (v3 : IVec S16 32) (v225 : BitVec 32) (v249 : IVec S16 32) : Prop :=
  (∀ (k0_h1 : k0_cond1 v225 = 1#1), ∀ a x, ((![v3, v249] : Fin 2 → IVec S16 32) a x).toNat < S16x240.size a)
theorem k0_idx17_inb : ∀ (v3 : IVec S16 32) (v225 : BitVec 32) (v249 : IVec S16 32) (k0_hw17 : k0_chk17 v3 v225 v249), ∀ (k0_h1 : k0_cond1 v225 = 1#1), ∀ a x, ((![v3, v249] : Fin 2 → IVec S16 32) a x).toNat < S16x240.size a := fun v3 v225 v249 k0_hw17 k0_h1 => k0_hw17 k0_h1
def k0_off4 (k0_t1 : Fin k0_t1_loop.trips) : Fin 2 → Nat :=
  let c0_i32_1 : BitVec 32 := 0#32
  let c1_i32_2 : BitVec 32 := 1#32
  let arg14 : BitVec 32 := Scf.iv c0_i32_1 c1_i32_2 k0_t1
  let c0_i32_94 : BitVec 32 := 0#32
  let v190 : BitVec 1 := Scalar.cmpi .sgt arg14 c0_i32_94
  let v191 : BitVec 32 := Scalar.extui v190
  let c0_i32_95 : BitVec 32 := 0#32
  let v192 : BitVec 1 := Scalar.cmpi .slt arg14 c0_i32_95
  let v193 : BitVec 32 := Scalar.extui v192
  let v194 : BitVec 32 := Scalar.subi v191 v193
  let c8_i32_93 : BitVec 32 := 8#32
  let c0_i32_96 : BitVec 32 := 0#32
  let v195 : BitVec 1 := Scalar.cmpi .sgt c8_i32_93 c0_i32_96
  let v196 : BitVec 32 := Scalar.extui v195
  let c0_i32_97 : BitVec 32 := 0#32
  let v197 : BitVec 1 := Scalar.cmpi .slt c8_i32_93 c0_i32_97
  let v198 : BitVec 32 := Scalar.extui v197
  let v199 : BitVec 32 := Scalar.subi v196 v198
  let v200 : BitVec 1 := Scalar.cmpi .ne v194 v199
  let v201 : BitVec 32 := Scalar.remsi arg14 c8_i32_93
  let c0_i32_98 : BitVec 32 := 0#32
  let v202 : BitVec 1 := Scalar.cmpi .ne v201 c0_i32_98
  let v203 : BitVec 1 := Scalar.andi v200 v202
  let v189 : BitVec 32 := Scalar.divsi arg14 c8_i32_93
  let c1_i32_99 : BitVec 32 := 1#32
  let v204 : BitVec 32 := Scalar.subi v189 c1_i32_99
  let v205 : BitVec 32 := Scalar.select v203 v204 v189
  let v246 : Index := Scalar.indexCast v205
  let c8_i32_100 : BitVec 32 := 8#32
  let c0_i32_101 : BitVec 32 := 0#32
  let v206 : BitVec 1 := Scalar.cmpi .eq c8_i32_100 c0_i32_101
  let c1_i32_102 : BitVec 32 := 1#32
  let v207 : BitVec 32 := Scalar.select v206 c1_i32_102 c8_i32_100
  let v208 : BitVec 32 := Scalar.remsi arg14 v207
  let c0_i32_104 : BitVec 32 := 0#32
  let v210 : BitVec 1 := Scalar.cmpi .slt v208 c0_i32_104
  let c0_i32_105 : BitVec 32 := 0#32
  let v211 : BitVec 1 := Scalar.cmpi .slt v207 c0_i32_105
  let v212 : BitVec 1 := Scalar.xori v210 v211
  let c0_i32_103 : BitVec 32 := 0#32
  let v209 : BitVec 1 := Scalar.cmpi .ne v208 c0_i32_103
  let v213 : BitVec 1 := Scalar.andi v212 v209
  let v214 : BitVec 32 := Scalar.addi v208 v207
  let v215 : BitVec 32 := Scalar.select v213 v214 v208
  let c16_i32_106 : BitVec 32 := 16#32
  let v216 : BitVec 32 := Scalar.muli v215 c16_i32_106
  let v247 : Index := Scalar.indexCast v216
  ![v246.toNat, v247.toNat]
def k0_off5 (k0_t1 : Fin k0_t1_loop.trips) : Fin 2 → Nat :=
  let c0_i32_1 : BitVec 32 := 0#32
  let c1_i32_2 : BitVec 32 := 1#32
  let arg14 : BitVec 32 := Scf.iv c0_i32_1 c1_i32_2 k0_t1
  let c0_i32_94 : BitVec 32 := 0#32
  let v190 : BitVec 1 := Scalar.cmpi .sgt arg14 c0_i32_94
  let v191 : BitVec 32 := Scalar.extui v190
  let c0_i32_95 : BitVec 32 := 0#32
  let v192 : BitVec 1 := Scalar.cmpi .slt arg14 c0_i32_95
  let v193 : BitVec 32 := Scalar.extui v192
  let v194 : BitVec 32 := Scalar.subi v191 v193
  let c8_i32_93 : BitVec 32 := 8#32
  let c0_i32_96 : BitVec 32 := 0#32
  let v195 : BitVec 1 := Scalar.cmpi .sgt c8_i32_93 c0_i32_96
  let v196 : BitVec 32 := Scalar.extui v195
  let c0_i32_97 : BitVec 32 := 0#32
  let v197 : BitVec 1 := Scalar.cmpi .slt c8_i32_93 c0_i32_97
  let v198 : BitVec 32 := Scalar.extui v197
  let v199 : BitVec 32 := Scalar.subi v196 v198
  let v200 : BitVec 1 := Scalar.cmpi .ne v194 v199
  let v201 : BitVec 32 := Scalar.remsi arg14 c8_i32_93
  let c0_i32_98 : BitVec 32 := 0#32
  let v202 : BitVec 1 := Scalar.cmpi .ne v201 c0_i32_98
  let v203 : BitVec 1 := Scalar.andi v200 v202
  let v189 : BitVec 32 := Scalar.divsi arg14 c8_i32_93
  let c1_i32_99 : BitVec 32 := 1#32
  let v204 : BitVec 32 := Scalar.subi v189 c1_i32_99
  let v205 : BitVec 32 := Scalar.select v203 v204 v189
  let v229 : Index := Scalar.indexCast v205
  let c8_i32_100 : BitVec 32 := 8#32
  let c0_i32_101 : BitVec 32 := 0#32
  let v206 : BitVec 1 := Scalar.cmpi .eq c8_i32_100 c0_i32_101
  let c1_i32_102 : BitVec 32 := 1#32
  let v207 : BitVec 32 := Scalar.select v206 c1_i32_102 c8_i32_100
  let v208 : BitVec 32 := Scalar.remsi arg14 v207
  let c0_i32_104 : BitVec 32 := 0#32
  let v210 : BitVec 1 := Scalar.cmpi .slt v208 c0_i32_104
  let c0_i32_105 : BitVec 32 := 0#32
  let v211 : BitVec 1 := Scalar.cmpi .slt v207 c0_i32_105
  let v212 : BitVec 1 := Scalar.xori v210 v211
  let c0_i32_103 : BitVec 32 := 0#32
  let v209 : BitVec 1 := Scalar.cmpi .ne v208 c0_i32_103
  let v213 : BitVec 1 := Scalar.andi v212 v209
  let v214 : BitVec 32 := Scalar.addi v208 v207
  let v215 : BitVec 32 := Scalar.select v213 v214 v208
  let c16_i32_106 : BitVec 32 := 16#32
  let v216 : BitVec 32 := Scalar.muli v215 c16_i32_106
  let v230 : Index := Scalar.indexCast v216
  ![v229.toNat, v230.toNat]
@[reducible] def k0_t3_loop : Scf.Loop 32 :=
  let c0_i32_85 : BitVec 32 := 0#32
  let c32_i32_86 : BitVec 32 := 32#32
  let v90 : BitVec 32 := Scalar.addi c0_i32_85 c32_i32_86
  let c1_i32_87 : BitVec 32 := 1#32
  ⟨c0_i32_85, v90, c1_i32_87⟩
def k0_off6 (k0_t3 : Fin k0_t3_loop.trips) : Fin 2 → Nat :=
  let c0_i32_85 : BitVec 32 := 0#32
  let c1_i32_87 : BitVec 32 := 1#32
  let arg14 : BitVec 32 := Scf.iv c0_i32_85 c1_i32_87 k0_t3
  let c0_i32_89 : BitVec 32 := 0#32
  let v93 : BitVec 1 := Scalar.cmpi .sgt arg14 c0_i32_89
  let v94 : BitVec 32 := Scalar.extui v93
  let c0_i32_90 : BitVec 32 := 0#32
  let v95 : BitVec 1 := Scalar.cmpi .slt arg14 c0_i32_90
  let v96 : BitVec 32 := Scalar.extui v95
  let v97 : BitVec 32 := Scalar.subi v94 v96
  let c8_i32 : BitVec 32 := 8#32
  let c0_i32_91 : BitVec 32 := 0#32
  let v98 : BitVec 1 := Scalar.cmpi .sgt c8_i32 c0_i32_91
  let v99 : BitVec 32 := Scalar.extui v98
  let c0_i32_92 : BitVec 32 := 0#32
  let v100 : BitVec 1 := Scalar.cmpi .slt c8_i32 c0_i32_92
  let v101 : BitVec 32 := Scalar.extui v100
  let v102 : BitVec 32 := Scalar.subi v99 v101
  let v103 : BitVec 1 := Scalar.cmpi .ne v97 v102
  let v104 : BitVec 32 := Scalar.remsi arg14 c8_i32
  let c0_i32_93 : BitVec 32 := 0#32
  let v105 : BitVec 1 := Scalar.cmpi .ne v104 c0_i32_93
  let v106 : BitVec 1 := Scalar.andi v103 v105
  let v92 : BitVec 32 := Scalar.divsi arg14 c8_i32
  let c1_i32_94 : BitVec 32 := 1#32
  let v107 : BitVec 32 := Scalar.subi v92 c1_i32_94
  let v108 : BitVec 32 := Scalar.select v106 v107 v92
  let v120 : Index := Scalar.indexCast v108
  let c8_i32_95 : BitVec 32 := 8#32
  let c0_i32_96 : BitVec 32 := 0#32
  let v109 : BitVec 1 := Scalar.cmpi .eq c8_i32_95 c0_i32_96
  let c1_i32_97 : BitVec 32 := 1#32
  let v110 : BitVec 32 := Scalar.select v109 c1_i32_97 c8_i32_95
  let v111 : BitVec 32 := Scalar.remsi arg14 v110
  let c0_i32_99 : BitVec 32 := 0#32
  let v113 : BitVec 1 := Scalar.cmpi .slt v111 c0_i32_99
  let c0_i32_100 : BitVec 32 := 0#32
  let v114 : BitVec 1 := Scalar.cmpi .slt v110 c0_i32_100
  let v115 : BitVec 1 := Scalar.xori v113 v114
  let c0_i32_98 : BitVec 32 := 0#32
  let v112 : BitVec 1 := Scalar.cmpi .ne v111 c0_i32_98
  let v116 : BitVec 1 := Scalar.andi v115 v112
  let v117 : BitVec 32 := Scalar.addi v111 v110
  let v118 : BitVec 32 := Scalar.select v116 v117 v111
  let c16_i32 : BitVec 32 := 16#32
  let v119 : BitVec 32 := Scalar.muli v118 c16_i32
  let v121 : Index := Scalar.indexCast v119
  ![v120.toNat, v121.toNat]
def k0_off7 (k0_t3 : Fin k0_t3_loop.trips) : Fin 1 → Nat :=
  let c0_i32_85 : BitVec 32 := 0#32
  let c1_i32_87 : BitVec 32 := 1#32
  let arg14 : BitVec 32 := Scf.iv c0_i32_85 c1_i32_87 k0_t3
  let c16_i32_102 : BitVec 32 := 16#32
  let v135 : BitVec 32 := Scalar.muli arg14 c16_i32_102
  let v136 : Index := Scalar.indexCast v135
  ![v136.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256x1 : Shape := ⟨3, ![16384, 256, 1]⟩
abbrev S_ : Shape := ⟨0, ![]⟩
abbrev S16384x1 : Shape := ⟨2, ![16384, 1]⟩
abbrev S16384x1x1 : Shape := ⟨3, ![16384, 1, 1]⟩
abbrev S16384x257x1 : Shape := ⟨3, ![16384, 257, 1]⟩
abbrev S16384x257 : Shape := ⟨2, ![16384, 257]⟩
abbrev S16384 : Shape := ⟨1, ![16384]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x256x1, .f32⟩
  | .hbm, ⟨1, _⟩ => ⟨S16384x256x1, .f32⟩
  | .hbm, ⟨2, _⟩ => ⟨S16384x256x1, .f32⟩
  | .hbm, ⟨3, _⟩ => ⟨S16384x256x1, .f32⟩
  | .hbm, ⟨4, _⟩ => ⟨S_, .f32⟩
  | .hbm, ⟨5, _⟩ => ⟨S16384x256x1, .f32⟩
  | .hbm, ⟨6, _⟩ => ⟨S16384x256x1, .f32⟩
  | .hbm, ⟨7, _⟩ => ⟨S_, .f32⟩
  | .hbm, ⟨8, _⟩ => ⟨S16384x1, .f32⟩
  | .hbm, ⟨9, _⟩ => ⟨S16384x1x1, .f32⟩
  | .hbm, ⟨10, _⟩ => ⟨S_, .f32⟩
  | .hbm, ⟨11, _⟩ => ⟨S16384x1x1, .f32⟩
  | .hbm, ⟨12, _⟩ => ⟨S16384x1x1, .f32⟩
  | .hbm, ⟨13, _⟩ => ⟨S16384x257x1, .f32⟩
  | .hbm, ⟨14, _⟩ => ⟨S_, .f32⟩
  | .hbm, ⟨15, _⟩ => ⟨S16384x1x1, .f32⟩
  | .hbm, ⟨16, _⟩ => ⟨S_, .f32⟩
  | .hbm, ⟨17, _⟩ => ⟨S16384x1x1, .f32⟩
  | .hbm, ⟨18, _⟩ => ⟨S16384x1x1, .f32⟩
  | .hbm, ⟨19, _⟩ => ⟨S16384x257x1, .f32⟩
  | .hbm, ⟨20, _⟩ => ⟨S16384x257, .f32⟩
  | .hbm, ⟨21, _⟩ => ⟨S_, .f32⟩
  | .hbm, ⟨22, _⟩ => ⟨S_, .f32⟩
  | .hbm, ⟨23, _⟩ => ⟨S16384x257, .f32⟩
  | .hbm, ⟨24, _⟩ => ⟨S_, .f32⟩
  | .hbm, ⟨25, _⟩ => ⟨S16384x257, .f32⟩
  | .hbm, ⟨26, _⟩ => ⟨S16384x257, .i1⟩
  | .hbm, ⟨27, _⟩ => ⟨S16384x257, .i32⟩
  | .hbm, ⟨28, _⟩ => ⟨S_, .i32⟩
  | .hbm, ⟨29, _⟩ => ⟨S16384, .i32⟩
  | .hbm, ⟨30, _⟩ => ⟨S16384x1, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S16384x1, .i32⟩
  | .hbm, ⟨35, _⟩ => ⟨S16384x1, .i32⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384x257, .f32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S_, .i32⟩
  | .hbm, ⟨44, _⟩ => ⟨S16384x1, .i32⟩
  | .hbm, ⟨45, _⟩ => ⟨S16384x1, .i32⟩
  | .hbm, ⟨46, _⟩ => ⟨S16384x1, .i32⟩
  | .hbm, ⟨47, _⟩ => ⟨S16384x1x1, .i32⟩
  | .hbm, ⟨48, _⟩ => ⟨S1, .i32⟩
  | .hbm, ⟨49, _⟩ => ⟨S_, .i32⟩
  | .hbm, ⟨50, _⟩ => ⟨S16384x1x1, .i32⟩
  | .hbm, ⟨51, _⟩ => ⟨S16384x1x1, .i1⟩
  | .hbm, ⟨52, _⟩ => ⟨S1x1x1, .i32⟩
  | .hbm, ⟨53, _⟩ => ⟨S16384x1x1, .i32⟩
  | .hbm, ⟨54, _⟩ => ⟨S16384x1x1, .i1⟩
  | .hbm, ⟨55, _⟩ => ⟨S16384x1x1, .i1⟩
  | .hbm, ⟨56, _⟩ => ⟨S_, .i1⟩
  | .hbm, ⟨57, _⟩ => ⟨S16384x1, .i1⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | _, _ => ⟨S16384x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_call0_cst : Ref sig .tc := ⟨.hbm, 21, rfl⟩
abbrev main_call0_call0_v0 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_c_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_v20 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v21 : Ref sig .tc := ⟨.hbm, 61, rfl⟩

abbrev nD : Nat := 1
abbrev τ : Topo := Topo.v7x

variable {F : FTy → Type} [FloatOps F]
-- ==== Proof.Spec.lean ====
/-
  What the kernel computes, row by row, over any float values: the running sums of a row of weights, how many of them
  are below one half, the position the count names in the tables, and the row's result; and that the vectors the tile
  computes sixteen rows at a time are these values lane by lane.
-/
module

public import proofs.«01_k».proof.Defs
public import proofs.«01_k».proof.Proof.Gen.KernelIdeal
public import proofs.«01_k».proof.Proof.Gen.KernelIdeal.Skeleton
public import Idealize.ShloMosaic.Lib.ValueIdxCore
public import Idealize.ShloMosaic.Lib.Pipeline.Value

@[expose] public section

noncomputable section

namespace Cert.Proof.Spec

open Cert.KernelIdeal Cert.KernelIdeal.Gen
open Idealize.ShloMosaic Idealize.ShloMosaic.ValueIdx

variable {F : FTy → Type} [FloatOps F]

/-! ## The values of one row -/

/-- Entry `c` of row `r` of the weights (row and column wrapped into range). -/
def wAt (W : S16384x256.Idx → F .f32) (r c : ℕ) : F .f32 :=
  W (ix2 ⟨r % 16384, Nat.mod_lt _ (by decide)⟩ ⟨c % 256, Nat.mod_lt _ (by decide)⟩)

/-- Entry `n` of a table (wrapped into range). -/
def tabAt (T : S4194304.Idx → F .f32) (n : ℕ) : F .f32 := T (ix1 ⟨n % 4194304, Nat.mod_lt _ (by decide)⟩)

/-- The sum of the entries `0 … k` of a row, added up from the left. -/
def acc (w : ℕ → F .f32) : ℕ → F .f32
  | 0 => w 0
  | k + 1 => FloatOps.addf (acc w k) (w (k + 1))

/-- One if the value is below one half, else zero. -/
def below (x : F .f32) : BitVec 32 := Scalar.select (FloatOps.cmpf .olt x (Scalar.ofBits .f32 0x3F000000#32)) 1#32 0#32

/-- How many of the sums `acc w 0 … acc w k` are below one half. -/
def cnt (w : ℕ → F .f32) : ℕ → BitVec 32
  | 0 => below (acc w 0)
  | k + 1 => cnt w k + below (acc w (k + 1))

/-- The counts of the sixteen rows of group `g` over the first sixteen columns. -/
def headCnt (W : S16384x256.Idx → F .f32) (g : ℕ) : IVec S16 32 := fun x => cnt (wAt W (16 * g + (x 0).val)) 15

/-- Group `g` goes on to the other columns: the largest of its counts is sixteen. -/
def goesOn (W : S16384x256.Idx → F .f32) (g : ℕ) : Prop :=
  k0_cond1 (extractAt ![15] (k0_pay26 (headCnt W g)) inpos_S16_p15) = 1#1

instance (W : S16384x256.Idx → F .f32) (g : ℕ) : Decidable (goesOn W g) := by unfold goesOn; infer_instance

/-- The counts of the sixteen rows of group `g`. -/
def groupCnt (W : S16384x256.Idx → F .f32) (g : ℕ) : IVec S16 32 :=
  if goesOn W g then fun x => cnt (wAt W (16 * g + (x 0).val)) 255 else headCnt W g

/-- Row `r`'s count. -/
def rowCnt (W : S16384x256.Idx → F .f32) (r : ℕ) : BitVec 32 := groupCnt W (r / 16) (ix1 ⟨r % 16, Nat.mod_lt _ (by decide)⟩)

/-- The place in the tables row `r` reads, as a word. -/
def rowPos (W : S16384x256.Idx → F .f32) (r : ℕ) : BitVec 32 := BitVec.ofNat 32 r * 256#32 + IntOp.minsi (rowCnt W r) 255#32

/-- Row `r`'s result, from its count and what it reads in the two tables. -/
def pick (n : BitVec 32) (a b : F .f32) : F .f32 :=
  Scalar.select (IntOp.cmpi .sge n 256#32) (Scalar.ofBits .f32 0x41200000#32)
    (FloatOps.mulf (FloatOps.addf a b) (Scalar.ofBits .f32 0x3F000000#32))

/-- Row `r`'s result. -/
def rowOut (W : S16384x256.Idx → F .f32) (A B : S4194304.Idx → F .f32) (r : ℕ) : F .f32 :=
  pick (rowCnt W r) (tabAt A (rowPos W r).toNat) (tabAt B (rowPos W r).toNat)

/-! ## Bounds -/

theorem below_le (x : F .f32) : (below x).toNat ≤ 1 := by
  unfold below Scalar.select; split <;> decide

theorem cnt_le (w : ℕ → F .f32) (k : ℕ) (hk : k < 256) : (cnt w k).toNat ≤ k + 1 := by
  induction k with
  | zero => exact below_le _
  | succ k ih =>
    have h1 := ih (by omega)
    have h2 := below_le (acc w (k + 1))
    rw [cnt, BitVec.toNat_add, Nat.mod_eq_of_lt (by omega)]
    omega

theorem rowCnt_le (W : S16384x256.Idx → F .f32) (r : ℕ) : (rowCnt W r).toNat ≤ 256 := by
  unfold rowCnt groupCnt
  split
  · exact cnt_le _ 255 (by decide)
  · exact (cnt_le _ 15 (by decide)).trans (by decide)

/-- The smaller of a count and 255. -/
theorem minsi_toNat (n : BitVec 32) (h : n.toNat ≤ 256) : (IntOp.minsi n 255#32).toNat = min n.toNat 255 := by
  have hs : n.slt 255#32 = decide (n.toNat < 255) := by
    rw [BitVec.slt_eq_decide, BitVec.toInt_eq_toNat_of_lt (by omega), BitVec.toInt_eq_toNat_of_lt (by decide)]
    simp
  unfold IntOp.minsi
  rw [hs]
  by_cases h' : n.toNat < 255
  · rw [decide_eq_true h', if_pos rfl]; omega
  · rw [decide_eq_false h', if_neg (by decide)]
    show 255 = _
    omega

theorem rowPos_toNat (W : S16384x256.Idx → F .f32) (r : ℕ) (hr : r < 16384) :
    (rowPos W r).toNat = r * 256 + min (rowCnt W r).toNat 255 := by
  unfold rowPos
  rw [BitVec.toNat_add, BitVec.toNat_mul, minsi_toNat _ (rowCnt_le W r), BitVec.toNat_ofNat]
  simp only [BitVec.toNat_ofNat]
  omega

theorem rowPos_lt (W : S16384x256.Idx → F .f32) (r : ℕ) (hr : r < 16384) : (rowPos W r).toNat < 4194304 := by
  rw [rowPos_toNat W r hr]
  omega

/-! ## The tile's vectors, lane by lane -/

/-- Column `c` of sixteen rows. -/
abbrev colV (w : S16.Idx → ℕ → F .f32) (c : ℕ) : FVec F S16 .f32 := fun x => w x c

variable (w : S16.Idx → ℕ → F .f32)

theorem acc_first : k0_pay8 (colV w 0) (colV w 1) (colV w 2) (colV w 3) (colV w 4) (colV w 5) (colV w 6) = fun x => acc (w x) 6 := rfl

theorem cnt_first :
    k0_pay9 k0_pay23 k0_pay24 k0_pay25 (colV w 0) (colV w 1) (colV w 2) (colV w 3) (colV w 4) (colV w 5) (colV w 6) = fun x => cnt (w x) 6 := rfl

theorem acc_second :
    k0_pay18 (fun x => acc (w x) 6) (colV w 7) (colV w 8) (colV w 9) (colV w 10) (colV w 11) (colV w 12) (colV w 13) (colV w 14)
      = fun x => acc (w x) 14 := rfl

theorem cnt_second :
    k0_pay17 k0_pay23 k0_pay24 k0_pay25 (fun x => acc (w x) 6) (fun x => cnt (w x) 6) (colV w 7) (colV w 8) (colV w 9) (colV w 10) (colV w 11)
      (colV w 12) (colV w 13) = fun x => cnt (w x) 13 := rfl

theorem acc_third : k0_pay19 (fun x => acc (w x) 14) (colV w 15) = fun x => acc (w x) 15 := rfl

theorem cnt_third : k0_pay20 k0_pay23 k0_pay24 k0_pay25 (fun x => cnt (w x) 13) (fun x => acc (w x) 14) (colV w 15) = fun x => cnt (w x) 15 := rfl

theorem acc_step (k : ℕ) : k0_pay27 (fun x => acc (w x) k) (colV w (k + 1)) = fun x => acc (w x) (k + 1) := rfl

theorem cnt_step (k : ℕ) : k0_pay28 (fun x => acc (w x) k) (fun x => cnt (w x) k) (colV w (k + 1)) = fun x => cnt (w x) (k + 1) := rfl

/-! ## Rows of a tile -/

/-- The first row of the tile at `i`. -/
def base (i : grid0.Coords) : ℕ := 1024 * (i 1).val + 512 * (i 0).val

theorem base_dvd (i : grid0.Coords) : base i = 16 * (64 * (i 1).val + 32 * (i 0).val) := by unfold base; omega

theorem base_le (i : grid0.Coords) : base i + 512 ≤ 16384 := by
  have h0 : (i 0).val < 2 := (i 0).isLt
  have h1 : (i 1).val < 16 := (i 1).isLt
  unfold base; omega

/-- The group of the tile's rows `16 t … 16 t + 15`. -/
def grp (i : grid0.Coords) (t : ℕ) : ℕ := 64 * (i 1).val + 32 * (i 0).val + t

theorem grp_row (i : grid0.Coords) (t : ℕ) : 16 * grp i t = base i + 16 * t := by unfold grp base; omega

/-- A row's count is its group's at its lane. -/
theorem rowCnt_lane (W : S16384x256.Idx → F .f32) (i : grid0.Coords) (t : ℕ) (x : S16.Idx) :
    rowCnt W (base i + 16 * t + (x 0).val) = groupCnt W (grp i t) x := by
  have hx : (x 0).val < 16 := (x 0).isLt
  have h := grp_row i t
  unfold rowCnt
  rw [show (base i + 16 * t + (x 0).val) / 16 = grp i t by omega]
  congr 1
  rw [eq_ix1 x]
  congr 1
  exact Fin.ext (show (base i + 16 * t + (x 0).val) % 16 = (x 0).val by omega)

/-- The words the tile stores into its offset list are the rows' positions. -/
theorem pos_lane (W : S16384x256.Idx → F .f32) (i : grid0.Coords) (t : ℕ) (ht : t < 32) (v92 : BitVec 32) (h92 : v92 = BitVec.ofNat 32 (16 * t))
    (v : Vec F S1x16 .i32) (hv : shapeCast S16 v shapeCasts_S1x16_S16 = groupCnt W (grp i t)) :
    k0_pay29 i v92 v = fun x => rowPos W (base i + 16 * t + (x 0).val) := by
  have h0 : (i 0).val < 2 := (i 0).isLt
  have h1 : (i 1).val < 16 := (i 1).isLt
  funext x
  have hx : (x 0).val < 16 := (x 0).isLt
  subst h92
  unfold k0_pay29 rowPos
  dsimp only
  rw [hv]
  show (_ + BitVec.ofNat 32 (0 * 16 + (x 0).val)) * 256#32 + IntOp.minsi (groupCnt W (grp i t) x) 255#32 = _
  rw [rowCnt_lane]
  congr 2
  unfold Scalar.addi Scalar.muli IntOp.addi IntOp.muli base
  apply BitVec.eq_of_toNat_eq
  simp only [broadcast_apply, BitVec.toNat_add, BitVec.toNat_mul, BitVec.toNat_ofNat]
  omega

/-- The tile's result of sixteen rows. -/
theorem out_lane (n : Vec F S1x16 .i32) (a b : Vec F S1x16 .f32) :
    k0_pay1 (k0_pay21 n) (k0_pay22 a b) 256#32
      = fun x => pick (shapeCast S16 n shapeCasts_S1x16_S16 x) (shapeCast S16 a shapeCasts_S1x16_S16 x) (shapeCast S16 b shapeCasts_S1x16_S16 x) := rfl

/-- The rows the tile's trip `t` reads in its own block, lane by lane. -/
theorem rows_lane (t : Fin k0_t1_loop.trips) (x : S16.Idx) :
    (k0_pay2 (iota .scVector S16 32 [0] iota_S16_d0_w32_scVector) 0#32 1#32 t x).toNat = 16 * t.val + (x 0).val := by
  have hx : (x 0).val < 16 := (x 0).isLt
  have ht : t.val < 32 := lt_of_lt_of_le t.isLt k0_t1_abs.2.1
  show (Scalar.muli (Scf.iv 0#32 1#32 t.val) 16#32 + BitVec.ofNat 32 (0 * 16 + (x 0).val)).toNat = _
  unfold Scf.iv Scalar.muli IntOp.muli
  simp only [BitVec.toNat_add, BitVec.toNat_mul, BitVec.toNat_ofNat]
  omega

theorem iv_toNat (t : ℕ) (ht : t < 256) : (Scf.iv 0#32 1#32 t).toNat = t := by
  unfold Scf.iv
  simp only [BitVec.toNat_add, BitVec.toNat_mul, BitVec.toNat_ofNat]
  omega

theorem row0_eq (t : ℕ) (ht : t < 32) : Scalar.muli (Scf.iv 0#32 1#32 t) 16#32 = BitVec.ofNat 32 (16 * t) := by
  apply BitVec.eq_of_toNat_eq
  unfold Scalar.muli IntOp.muli
  rw [BitVec.toNat_mul, iv_toNat t (by omega)]
  simp only [BitVec.toNat_ofNat]
  omega

end Cert.Proof.Spec
-- ==== Proof.GatherBatch.lean ====
/-
  Indirect gathers sharing one DMA semaphore. The kernel starts eight indirect gathers on one semaphore and only then
  waits eight times. Every row of every gather is taken here as one transfer of a counted batch
  (`Transfers.Batch`): issuing a gather issues as many consecutive transfers of the batch as it has rows, and
  the deliveries come back all together when the whole batch has been waited for.
-/
module

public import Idealize.ShloMosaic.Lib.Batch
public import Idealize.ShloMosaic.Lib.SparseCore.Stream

@[expose] public section

noncomputable section

namespace Cert.Proof.GatherBatch

open Idealize.ShloMosaic Idealize.ShloMosaic.SparseCore Idealize.ShloMosaic.Transfers
open Idealize.SL Idealize.SL.RA
open Idealize.SL.BI (sProp Storable bigSep)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The batch positions from `k` on are `o` consecutive ones and the positions from `k + o` on. -/
theorem bigSep_pending_add {n : ℕ} (Φ : Fin n → sProp 𝕄) (o k : ℕ) (h : k + o ≤ n) :
    bigSep (pending k) Φ
      = iprop((bigSep Finset.univ fun j : Fin o => Φ ⟨k + j.val, by omega⟩) ∗ bigSep (pending (k + o)) Φ) := by
  classical
  let e : Fin o ↪ Fin n := ⟨fun j => ⟨k + j.val, by omega⟩, fun a b hab => by
    have := congrArg Fin.val hab
    exact Fin.ext (by simpa using this)⟩
  have hsplit : pending (n := n) k = (Finset.univ.map e) ∪ pending (k + o) := by
    ext t
    simp only [pending, Finset.mem_filter, Finset.mem_univ, true_and, Finset.mem_union, Finset.mem_map]
    constructor
    · intro ht
      by_cases h' : k + o ≤ t.val
      · exact .inr h'
      · exact .inl ⟨⟨t.val - k, by omega⟩, Fin.ext (show k + (t.val - k) = t.val by omega)⟩
    · rintro (⟨j, rfl⟩ | h')
      · exact Nat.le_add_right _ _
      · omega
  have hdisj : Disjoint (Finset.univ.map e) (pending (n := n) (k + o)) := by
    rw [Finset.disjoint_left]
    intro t ht ht'
    obtain ⟨j, -, rfl⟩ := Finset.mem_map.mp ht
    have h1 : k + o ≤ k + j.val := (Finset.mem_filter.mp ht').2
    have := j.isLt
    omega
  rw [hsplit, BI.bigSep_union hdisj, BI.bigSep_map]
  rfl

variable (EC : UEmb Counters (MT nD τ sig Ix (Elt F) Name U Lvl)) (𝒱 : Variants) (c : Thread nD τ) (bd : Option 𝒱.V)
variable {sp : Space} {s₀ s si : Shape} {e : EltTy} {a : Nat}

section Row

variable (src : Memref sig c.2.kind sp s₀ e) (dst : Memref sig c.2.kind .vmem s e) (hg : s₀.Gathers a s)
variable (offs : Memref sig c.2.kind .vmem si .i32) (hn : si.numel = s.size hg.axis') (hs : 0 < s.numel)
variable (q qo : PosShare TreeShare) (fs : Buf (Elt F) (src.view.loc c)) (fd : Buf (Elt F) (dst.view.loc c)) (fo : Buf (Elt F) (offs.view.loc c))
variable (r : Fin (s.size hg.axis') → Fin (s₀.size hg.axis))

/-- Row `j` of the destination at contents `f`. -/
abbrev rowAt (f : Buf (Elt F) (dst.view.loc c)) (j : Fin (s.size hg.axis')) : sProp 𝕄 :=
  dst.view.loc c ↦[(dst.view.slice (s.rowRect hg.axis' j)).set]{fullShare} f

/-- The element of the offset list which names row `j`. -/
abbrev entryAt (j : Fin (s.size hg.axis')) : sProp 𝕄 :=
  offs.view.loc c ↦[{offs.view.emb (si.rowMajor.symm (j.cast hn.symm))}]{qo} fo

/-- Row `j`'s piece of the source's share. -/
abbrev srcAt (j : Fin (s.size hg.axis')) : sProp 𝕄 :=
  src.view.loc c ↦[src.view.set]{pieceOf q _ (Shape.size_pos_of_numel_pos hs hg.axis') j} fs

/-- What row `j` of the destination is written with: the source's row `r j`. -/
abbrev rowVal (j : Fin (s.size hg.axis')) : (s.rowShape hg.axis').Idx → Elt F e := fun i => src.view.read (Elt F) fs (hg.rowIdx (r j) i)

/-- What the transfer of row `j` of a gather delivers: the row written, its list element and its piece of the source. -/
def rowLanded (j : Fin (s.size hg.axis')) : sProp 𝕄 :=
  iprop((rowAt c dst hg ((dst.view.slice (s.rowRect hg.axis' j)).write (Elt F) fd (rowVal c src hg fs r j) Finset.univ) j
      ∗ entryAt c hg offs hn qo fo j) ∗ srcAt c src hg hs q fs j)

instance rowLanded_storable (j : Fin (s.size hg.axis')) :
    Storable (upEmb : UEmb _ 𝕄) (rowLanded c src dst hg offs hn hs q qo fs fd fo r j) := by
  unfold rowLanded; infer_instance

/-- All the rows of a gather landed are its destination written, its source and its list. -/
theorem rowsLanded_join :
    (bigSep Finset.univ fun j => rowLanded (Ix := Ix) (Name := Name) (U := U) (Lvl := Lvl) c src dst hg offs hn hs q qo fs fd fo r j)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hW : ∀ j i, rowVal c src hg fs r j i = gatherPayload hg (src.view.read (Elt F) fs) r ((s.rowRect hg.axis' j).emb i) := fun j i => by
    unfold rowVal gatherPayload; rw [Shape.Gathers.idx_rowRect_emb]
  have hen : Function.Bijective fun j : Fin (s.size hg.axis') => si.rowMajor.symm (j.cast hn.symm) :=
    si.rowMajor.symm.bijective.comp (finCongr hn.symm).bijective
  unfold rowLanded
  iintro H
  ihave H := bigSep_sep_out _ _ _ $$ H
  icases H with ⟨H, Hsrc⟩
  ihave H := bigSep_sep_out _ _ _ $$ H
  icases H with ⟨Hrows, Hlist⟩
  isplitl [Hrows]
  · iapply (pointsTo_rows_write c dst.view hg.axis' fd (rowVal c src hg fs r) _ hW) $$ Hrows
  isplitl [Hsrc]
  · iapply (Entails.of_eq (pointsTo_piecesOf src.view.set fs (Shape.size_pos_of_numel_pos hs hg.axis') q).symm) $$ Hsrc
  iapply (Entails.of_eq (pointsTo_entries c offs.view _ hen qo fo).symm) $$ Hlist

end Row

variable {defs : Defs nD τ sig (Elt F) Λ} {α : Type} {Q : α → sProp (MT nD τ sig Ix (Elt F) Name U Lvl)}

/-- ISSUE of a gather as the next transfers of a batch, one per row, each of `N` units: holding a share of the source,
    the destination, a share of the offset list whose every word names a row, and the batch of which `k₀` transfers
    have been issued, the run goes on with the batch advanced by the gather's rows. -/
theorem wp_gatherInBatch {n : ℕ} [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} (ι : Ix) (N k₀ u o : ℕ) (ho : s.size hg.axis' = o)
    (hN : ∀ j, (dst.slice (s.rowRect hg.axis' j) (s.stride_rowRect hg.axis' j)).view.dmaCredit = N)
    (hs : 0 < s.numel) (hin : ∀ x, (offs.view.read (Elt F) fo x).toNat < s₀.size hg.axis)
    (hk : k₀ + o ≤ n) (hu : u ≤ k₀ * N)
    (hD : ∀ (j : Fin (s.size hg.axis')) (h : k₀ + j.val < n),
      D ⟨k₀ + j.val, h⟩ = rowLanded c src dst hg offs hn hs q qo fs fd fo (rows (offs.view.read (Elt F) fo) hn hin) j) :
    iprop((src.view.loc c ↦[src.view.set]{q} fs) ∗ (dst.view.loc c ↦[dst.view.set]{fullShare} fd)
        ∗ (offs.view.loc c ↦[offs.view.set]{qo} fo) ∗ Batch EC c (.dma sem) ι N D k₀ u)
      ⊢ iprop((Batch EC c (.dma sem) ι N D (k₀ + o) u -∗ wp frame (wpE defs 𝒱 c bd) Set.univ (k ⟨⟩) Q)
          -∗ wp frame (wpE defs 𝒱 c bd) Set.univ (enqueueIndirectGather hp src dst hg offs hn sem hsrc he hsp hr >>= k) Q) := by
  subst ho
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hagree : S.RowsAgree := by
    intro j x x' ρ ρ' h h'
    obtain ⟨_, _, rfl⟩ := Option.map_eq_some_iff.mp h
    obtain ⟨_, _, rfl⟩ := Option.map_eq_some_iff.mp h'
    rfl
  have hnamed : ∀ j, S.row j (S.word fo j) = some (rd j) := fun j => by
    change (rowOf (s₀.size hg.axis) (offs.view.read (Elt F) fo (S.entry j))).map _ = _
    rw [rowOf_of_lt (hin _)]; rfl
  have hen : Function.Bijective fun j : Fin (s.size hg.axis') => si.rowMajor.symm (j.cast hn.symm) :=
    si.rowMajor.symm.bijective.comp (finCongr hn.symm).bijective
  have hsum : ∑ j, (rd j).dst.view.dmaCredit = s.size hg.axis' * N := by
    rw [Finset.sum_congr rfl fun j _ => hN j, Finset.sum_const, Finset.card_univ, Fintype.card_fin, smul_eq_mul]
  iintro ⟨Hs, Hd, Ho, HB⟩ Hk
  unfold Batch
  icases HB with ⟨%γ, %γ₀, %κ, #Hinv, HI, H0, Hcred⟩
  ihave HI := (Entails.of_eq (bigSep_pending_add (fun t => count EC (γ t) 0) (s.size hg.axis') k₀ hk)) $$ HI
  icases HI with ⟨Hnow, HI⟩
  ihave Hd := (Entails.of_eq (pointsTo_rows c dst.view hg.axis' fullShare fd)) $$ Hd
  ihave Ho := (Entails.of_eq (pointsTo_entries c offs.view _ hen qo fo)) $$ Ho
  ihave Hs := (Entails.of_eq (pointsTo_piecesOf src.view.set fs (Shape.size_pos_of_numel_pos hs hg.axis') q)) $$ Hs
  iapply (wp_enqueueIndirectDma 𝒱 c bd Set.univ (qo := qo) (fo := fo) (rd := rd) ι (s.size hg.axis' * N) hagree hnamed hsum) $$ [Hd Ho Hs Hnow]
  · have hone : ∀ j, iprop(inv κ (batchBody EC (c, SemLoc.dma sem) N D γ γ₀)
          ∗ (((rowAt c dst hg fd j ∗ entryAt c hg offs hn qo fo j) ∗ srcAt c src hg hs q fs j)
            ∗ count EC (γ ⟨k₀ + j.val, lt_of_lt_of_le (Nat.add_lt_add_left j.isLt k₀) hk⟩) 0))
        ⊢ iprop(S.heldEntry qo fo j ∗ (S.heldEntry qo fo j -∗ rowRes c (rd j))) := fun j => by
      have hcr : (rd j).dst.view.amount (.dma sem) = N := (View.amount_dma _ _).trans (hN j)
      iintro ⟨#Hinv, ⟨⟨Hr, He⟩, Hq⟩, Hc⟩
      isplitl [He]; · iexact He
      iintro He
      unfold rowRes
      rw [hcr]
      iexists pieceOf q _ (Shape.size_pos_of_numel_pos hs hg.axis') j, fs, iprop(rowAt c dst hg ((dst.view.slice (s.rowRect hg.axis' j)).write (Elt F) fd (rowVal c src hg fs r j) Finset.univ) j
        ∗ entryAt c hg offs hn qo fo j)
      isplitl [Hq]; · iexact Hq
      isplitl [Hr He]
      · iapply writeUpdate_frame
        isplitl [Hr]
        · iapply (pointsTo_writeUpdate c (v := dst.view.slice (s.rowRect hg.axis' j)) subset_rfl) $$ Hr
        · iexact He
      · iapply (batch_creditUpdate EC (N := N) (D := D) (γ₀ := γ₀) ⟨k₀ + j.val, lt_of_lt_of_le (Nat.add_lt_add_left j.isLt k₀) hk⟩ (Entails.of_eq (hD j _).symm))
        isplitr; · iexact Hinv
        iexact Hc
    unfold Stream.res
    ihave H1 := bigSep_sep_in _ _ _ $$ [Hd Ho]; · isplitl [Hd] <;> iassumption
    ihave H2 := bigSep_sep_in _ _ _ $$ [H1 Hs]; · isplitl [H1] <;> iassumption
    ihave H3 := bigSep_sep_in _ _ _ $$ [H2 Hnow]; · isplitl [H2] <;> iassumption
    iapply (bigSep_mono_pers Finset.univ _ _ _ fun j _ => hone j)
    isplitr; · iexact Hinv
    iexact H3
  · iintro Hnew
    iapply Hk
    iexists γ, γ₀, κ
    isplitr; · iexact Hinv
    isplitl [HI]; · iexact HI
    isplitl [H0]; · iexact H0
    rw [show (k₀ + s.size hg.axis') * N - u = (k₀ * N - u) + s.size hg.axis' * N by rw [Nat.add_mul]; omega, ← tallyAt_add]
    isplitl [Hcred]
    · iexact Hcred
    · iexact Hnew

end Cert.Proof.GatherBatch
-- ==== Proof.Setup.lean ====
/-
  The launch's vocabulary: the program as the launch theorem sees it, the resource algebra, the arrays and scratch
  buffers by name, and the pieces of the tile's body applied to them.
-/
module

public import proofs.«01_k».proof.Proof.Spec
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- Each of the two cores runs sixteen tiles. -/
theorem nSub_zero : (K (F := F)).nSub 0 = 16 := rfl

/-- The launch's semaphores are used as the launch theorem needs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters
abbrev MM (F : FTy → Type) : Type := MT nD τ sig (HIx 1) (Elt F) ℕ UU ℕ

abbrev EH : Emb UH (MT nD τ sig (HIx 1) (Elt F) ℕ UU ℕ) := embL

/-! ## The buffers -/

abbrev wV : Memref Cert.KernelIdeal.sig Kind.scVector Space.hbm Cert.KernelIdeal.S16384x256 EltTy.f32 :=
  Memref.whole Cert.KernelIdeal.main_v0_scv
abbrev sV : Memref Cert.KernelIdeal.sig Kind.scVector Space.hbm Cert.KernelIdeal.S4194304 EltTy.f32 :=
  Memref.whole Cert.KernelIdeal.main_v1_scv
abbrev eV : Memref Cert.KernelIdeal.sig Kind.scVector Space.hbm Cert.KernelIdeal.S4194304 EltTy.f32 :=
  Memref.whole Cert.KernelIdeal.main_v2_scv
abbrev oV : Memref Cert.KernelIdeal.sig Kind.scVector Space.hbm Cert.KernelIdeal.S16384 EltTy.f32 :=
  Memref.whole Cert.KernelIdeal.main_v3_scv
abbrev aV : Memref Cert.KernelIdeal.sig Kind.scVector Space.vmem Cert.KernelIdeal.S512x16 EltTy.f32 :=
  Memref.whole Cert.KernelIdeal.cc0_scratch0
abbrev bV : Memref Cert.KernelIdeal.sig Kind.scVector Space.vmem Cert.KernelIdeal.S16x240 EltTy.f32 :=
  Memref.whole Cert.KernelIdeal.cc0_scratch1
abbrev iV : Memref Cert.KernelIdeal.sig Kind.scVector Space.vmem Cert.KernelIdeal.S4x128 EltTy.i32 :=
  Memref.whole Cert.KernelIdeal.cc0_scratch2
abbrev nV : Memref Cert.KernelIdeal.sig Kind.scVector Space.vmem Cert.KernelIdeal.S4x128 EltTy.i32 :=
  Memref.whole Cert.KernelIdeal.cc0_scratch3
abbrev svV : Memref Cert.KernelIdeal.sig Kind.scVector Space.vmem Cert.KernelIdeal.S4x128 EltTy.f32 :=
  Memref.whole Cert.KernelIdeal.cc0_scratch4
abbrev evV : Memref Cert.KernelIdeal.sig Kind.scVector Space.vmem Cert.KernelIdeal.S4x128 EltTy.f32 :=
  Memref.whole Cert.KernelIdeal.cc0_scratch5
abbrev outV : Memref Cert.KernelIdeal.sig Kind.scVector Space.vmem Cert.KernelIdeal.S512 EltTy.f32 :=
  Memref.whole Cert.KernelIdeal.cc0_scratch6

/-- The core and the tile of a position in the launch's grid. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-! ## The body's pieces at these buffers -/

section
variable [FloatOps F] (i : grid0.Coords)

/-- The lane numbers of a vector. -/
abbrev lanes : IVec S16 32 := iota .scVector S16 32 [0] iota_S16_d0_w32_scVector

abbrev body := cc0__sc_body (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2
abbrev part1 := k0_part1 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2 lanes k0_pay23 k0_pay24 k0_pay25 0#32 1#32
abbrev part2 := k0_part2 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2 k0_pay23 k0_pay24 k0_pay25
abbrev part3 := k0_part3 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2
abbrev part4 := k0_part4 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2 0#32 1#32
abbrev part5 := k0_part5 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2
abbrev part6 := k0_part6 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2
abbrev part7 := k0_part7 (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2
abbrev rowsBody := k0_t1_body (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2 lanes
abbrev sumBody := k0_t2_body (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2 lanes
abbrev outBody := k0_t3_body (F := F) i wV (Memref.isWhole_whole _) sV (Memref.isWhole_whole _) eV (Memref.isWhole_whole _) oV (Memref.isWhole_whole _) aV (Memref.isWhole_whole _) bV (Memref.isWhole_whole _) iV (Memref.isWhole_whole _) nV (Memref.isWhole_whole _) svV (Memref.isWhole_whole _) evV (Memref.isWhole_whole _) outV (Memref.isWhole_whole _) cc0_scratch7 cc0_scoped0 cc0_scoped1 cc0_scoped2
end

end Cert.Proof.Tile
-- ==== Proof.Steps.lean ====
/-
  The single steps of a tile: a column of sixteen rows read out of its head block or out of a full row block, and sixteen
  counts, offsets or results read or written in place.
-/
module

public import proofs.«01_k».proof.Proof.Setup
public import Idealize.ShloMosaic.Lib.WritesUnit

@[expose] public section

noncomputable section

namespace Cert.Proof.Tile

open Cert.KernelIdeal Cert.KernelIdeal.Gen Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the scratch buffers hold -/

/-- The tile's head block: the first sixteen entries of its 512 rows. -/
def headBlk (W : S16384x256.Idx → F .f32) (i : grid0.Coords) : S512x16.Idx → F .f32 :=
  fun p => wAt W (base i + (p 0).val) (p 1).val

/-- The last 240 entries of the sixteen rows of group `g`. -/
def tailBlk (W : S16384x256.Idx → F .f32) (g : ℕ) : S16x240.Idx → F .f32 :=
  fun p => wAt W (16 * g + (p 0).val) (16 + (p 1).val)

/-- The sixteen rows of group `g`, by lane. -/
abbrev rowsOf (W : S16384x256.Idx → F .f32) (g : ℕ) : S16.Idx → ℕ → F .f32 := fun x => wAt W (16 * g + (x 0).val)

/-- The position of an entry of a 4 × 128 scratch, rows one after another. -/
def lin (p : S4x128.Idx) : ℕ := 128 * (p 0).val + (p 1).val

/-- A 4 × 128 scratch after sixteen values are written at positions `16 t … 16 t + 15`. -/
def stored (t : ℕ) (v : S16.Idx → BitVec 32) (f : S4x128.Idx → BitVec 32) : S4x128.Idx → BitVec 32 :=
  fun p => if 16 * t ≤ lin p ∧ lin p < 16 * t + 16 then v (ix1 ⟨lin p % 16, Nat.mod_lt _ (by decide)⟩) else f p

/-- The entry of a 4 × 128 scratch at lane `x` of trip `t`. -/
def slot (t : ℕ) (ht : t < 32) (x : S16.Idx) : S4x128.Idx :=
  ix2 ⟨t / 8, by omega⟩ ⟨16 * (t % 8) + (x 0).val, by have hx : (x 0).val < 16 := (x 0).isLt; omega⟩

theorem lin_slot (t : ℕ) (ht : t < 32) (x : S16.Idx) : lin (slot t ht x) = 16 * t + (x 0).val := by
  show 128 * (t / 8) + (16 * (t % 8) + (x 0).val) = _
  omega

/-! ## Reading a column -/

/-- The whole head block read through its own rectangle is itself. -/
theorem read_head (f : S512x16.Idx → F .f32) : (aV.access (Rect.whole S512x16)).read (Elt F) f = f := by
  funext p
  rw [View.read_apply]
  exact congrArg f (funext fun a => Fin.ext (show 0 + 1 * (p a).val = (p a).val by omega))

theorem read_tail (f : S16x240.Idx → F .f32) : (bV.access (Rect.whole S16x240)).read (Elt F) f = f := by
  funext p
  rw [View.read_apply]
  exact congrArg f (funext fun a => Fin.ext (show 0 + 1 * (p a).val = (p a).val by omega))

/-- What a load of trip `t`'s sixteen entries reads, lane by lane. -/
theorem row_lane {e : EltTy} {m : Memref sig Kind.scVector Space.vmem S4x128 e} {off : Fin 2 → ℕ}
    {inb : ∀ a, off a + S1x16.size a ≤ S4x128.size a} (t : ℕ) (ht : t < 32) (hoff : off = ![t / 8, 16 * (t % 8)])
    (f : m.view.ty.Contents (Elt F)) :
    shapeCast S16 (m.view.readAt (Elt F) (Rect.unit (s := S4x128) off S1x16.size inb).toLoadRect f) shapeCasts_S1x16_S16
      = fun x => m.view.read (Elt F) f (slot t ht x) := by
  subst hoff
  funext x
  rw [shapeCast_dropUnit_apply]
  rw [View.readAt_apply]
  congr 1
  funext a
  refine Fin.ext ?_
  revert a
  refine Fin.forall_fin_two.mpr ⟨?_, ?_⟩
  · show t / 8 + 1 * 0 = t / 8
    omega
  · show 16 * (t % 8) + 1 * (x 0).val = 16 * (t % 8) + (x 0).val
    omega

/-- What a store of sixteen words at trip `t`'s place leaves. -/
theorem read_stored {m : Memref sig Kind.scVector Space.vmem S4x128 .i32} {off : Fin 2 → ℕ}
    {inb : ∀ a, off a + S1x16.size a ≤ S4x128.size a} (t : ℕ) (ht : t < 32) (hoff : off = ![t / 8, 16 * (t % 8)])
    (f : m.view.ty.Contents (Elt F)) (v : S16.Idx → BitVec 32) :
    m.view.read (Elt F) ((m.access (Rect.unit (s := S4x128) off S1x16.size inb)).write (Elt F) f (shapeCast S1x16 v shapeCasts_S16_S1x16) Finset.univ)
      = stored t v (m.view.read (Elt F) f) := by
  subst hoff
  funext p
  have h0 : (p 0).val < 4 := (p 0).isLt
  have h1 : (p 1).val < 128 := (p 1).isLt
  unfold stored lin
  split
  · rename_i h
    refine (View.read_writes_cons_unit_of_mem m.view f inb (shapeCast S1x16 v shapeCasts_S16_S1x16) [] p
      (ix2 ⟨0, by decide⟩ ⟨(p 1).val - 16 * (t % 8), by show _ < 16; omega⟩) rfl ?_).trans ?_
    · refine Fin.forall_fin_two.mpr ⟨?_, ?_⟩
      · show (p 0).val = t / 8 + 0
        omega
      · show (p 1).val = 16 * (t % 8) + ((p 1).val - 16 * (t % 8))
        omega
    · rw [shapeCast_addUnit_apply]
      congr 1
      refine (eq_ix1 _).trans (congrArg ix1 (Fin.ext ?_))
      show (p 1).val - 16 * (t % 8) = (128 * (p 0).val + (p 1).val) % 16
      omega
  · rename_i h
    by_cases hp : (p 0).val = t / 8
    · refine View.read_writes_cons_unit_of_not_mem m.view f inb (shapeCast S1x16 v shapeCasts_S16_S1x16) [] p rfl (1 : Fin 2) ?_
      show (p 1).val < 16 * (t % 8) ∨ 16 * (t % 8) + 16 ≤ (p 1).val
      omega
    · refine View.read_writes_cons_unit_of_not_mem m.view f inb (shapeCast S1x16 v shapeCasts_S16_S1x16) [] p rfl (0 : Fin 2) ?_
      show (p 0).val < t / 8 ∨ t / 8 + 1 ≤ (p 0).val
      omega

/-- Row and column numbers in range: the check before a head column is read. -/
theorem chk_head {rw' cw : IVec S16 32} {t : ℕ} (hr : ∀ x, (rw' x).toNat = 16 * t + (x 0).val) (ht : t < 32) (c : ℕ) (hc : c < 16)
    (hcw : ∀ x, (cw x).toNat = c) : ∀ a x, ((![rw', cw] : Fin 2 → IVec S16 32) a x).toNat < S512x16.size a := by
  refine Fin.forall_fin_two.mpr ⟨fun x => ?_, fun x => ?_⟩
  · have hx : (x 0).val < 16 := (x 0).isLt
    show (rw' x).toNat < 512
    rw [hr]; omega
  · show (cw x).toNat < 16
    rw [hcw]; exact hc

section
variable (d : Dev nD) (i : grid0.Coords) {α : Type} {Q : α → sProp (MT nD τ sig (HIx 1) (Elt F) ℕ UU ℕ)}

/-- Column `c` of the sixteen rows of trip `t`, read out of the head block. -/
theorem wp_headCol (W : S16384x256.Idx → F .f32) (t : ℕ) (ht : t < 32) (c : ℕ) (hc : c < 16) {rw' cw : IVec S16 32}
    (hr : ∀ x, (rw' x).toNat = 16 * t + (x 0).val) (hcw : ∀ x, (cw x).toNat = c) {P : Prop} {dec : Decidable P}
    {h : P → ∀ a x, ((![rw', cw] : Fin 2 → IVec S16 32) a x).toNat < S512x16.size a} {hl : aV.view.Loads}
    (hP : P) {k : Vec F S16 .f32 → Prog (TpuEff nD τ sig (Elt F) Λ₀ (thr d i).2) α} :
    (aV.view.loc (thr d i) ↦[Finset.univ]{fullShare} (headBlk W i))
      ⊢ iprop(((aV.view.loc (thr d i) ↦[Finset.univ]{fullShare} (headBlk W i))
          -∗ wp frame (wpE defs₀ 𝒱₀ (thr d i) none) Set.univ (k (colV (rowsOf W (grp i t)) c)) Q)
        -∗ wp (M := 𝕄) frame (wpE defs₀ 𝒱₀ (thr d i) none) Set.univ
            (.op (.assume P dec) fun w => SparseCore.vectorLoadIdx aV ![rw', cw] (h w.down) hl >>= k) Q) := by
  rw [wp_assume_of _ _ _ _ hP]
  iintro Ha Hk
  iapply (SparseCore.wp_vectorLoadIdx 𝒱₀ (thr d i) none Set.univ (base := aV) (S := Finset.univ) (q := fullShare) (Finset.subset_univ _)) $$ Ha
  iintro Ha
  have hv : loadIdx ((aV.access (Rect.whole S512x16)).read (Elt F) (headBlk W i)) ![rw', cw] (h hP)
      = colV (rowsOf W (grp i t)) c := by
    rw [read_head]
    funext x
    show wAt W (base i + (rw' x).toNat) (cw x).toNat = wAt W (16 * grp i t + (x 0).val) c
    rw [hr, hcw, ← Nat.add_assoc, grp_row]
  rw [hv]
  iapply Hk $$ Ha

/-- Column `16 + c` of the sixteen rows of group `g`, read out of the full row block. -/
theorem wp_tailCol (W : S16384x256.Idx → F .f32) (g : ℕ) (c : ℕ) (hc : c < 240) {rw' cw : IVec S16 32}
    (hr : ∀ x, (rw' x).toNat = (x 0).val) (hcw : ∀ x, (cw x).toNat = c) {P : Prop} {dec : Decidable P}
    {h : P → ∀ a x, ((![rw', cw] : Fin 2 → IVec S16 32) a x).toNat < S16x240.size a} {hl : bV.view.Loads}
    (hP : P) {k : Vec F S16 .f32 → Prog (TpuEff nD τ sig (Elt F) Λ₀ (thr d i).2) α} :
    (bV.view.loc (thr d i) ↦[Finset.univ]{fullShare} (tailBlk W g))
      ⊢ iprop(((bV.view.loc (thr d i) ↦[Finset.univ]{fullShare} (tailBlk W g))
          -∗ wp frame (wpE defs₀ 𝒱₀ (thr d i) none) Set.univ (k (colV (rowsOf W g) (16 + c))) Q)
        -∗ wp (M := 𝕄) frame (wpE defs₀ 𝒱₀ (thr d i) none) Set.univ
            (.op (.assume P dec) fun w => SparseCore.vectorLoadIdx bV ![rw', cw] (h w.down) hl >>= k) Q) := by
  rw [wp_assume_of _ _ _ _ hP]
  iintro Ha Hk
  iapply (SparseCore.wp_vectorLoadIdx 𝒱₀ (thr d i) none Set.univ (base := bV) (S := Finset.univ) (q := fullShare) (Finset.subset_univ _)) $$ Ha
  iintro Ha
  have hv : loadIdx ((bV.access (Rect.whole S16x240)).read (Elt F) (tailBlk W g)) ![rw', cw] (h hP)
      = colV (rowsOf W g) (16 + c) := by
    rw [read_tail]
    funext x
    show wAt W (16 * g + (rw' x).toNat) (16 + (cw x).toNat) = _
    rw [hr, hcw]
  rw [hv]
  iapply Hk $$ Ha

/-! ## Sixteen entries of a 4 × 128 scratch -/

/-- A load of trip `t`'s sixteen entries, of any 4 × 128 scratch held whole. -/
theorem wp_loadRow {e : EltTy} {m : Memref sig Kind.scVector Space.vmem S4x128 e} {off : Fin 2 → ℕ}
    {inb : ∀ a, off a + S1x16.size a ≤ S4x128.size a} {hl : m.view.LoadsAt (Rect.unit (s := S4x128) off S1x16.size inb).toLoadRect}
    {k : Vec F S1x16 e → Prog (TpuEff nD τ sig (Elt F) Λ₀ (thr d i).2) α} (f : Buf (Elt F) (m.view.loc (thr d i))) :
    (m.view.loc (thr d i) ↦[Finset.univ]{fullShare} f)
      ⊢ iprop(((m.view.loc (thr d i) ↦[Finset.univ]{fullShare} f)
          -∗ wp frame (wpE defs₀ 𝒱₀ (thr d i) none) Set.univ (k (m.view.readAt (Elt F) (Rect.unit (s := S4x128) off S1x16.size inb).toLoadRect f)) Q)
        -∗ wp (M := 𝕄) frame (wpE defs₀ 𝒱₀ (thr d i) none) Set.univ (.op (.load m (Rect.unit (s := S4x128) off S1x16.size inb).toLoadRect hl) k) Q) :=
  wp_load 𝒱₀ (thr d i) none Set.univ (m := m) (S := Finset.univ) (Finset.subset_univ _)

/-- A store of sixteen words at trip `t`'s place. -/
theorem wp_storeRow {m : Memref sig Kind.scVector Space.vmem S4x128 .i32} {off : Fin 2 → ℕ}
    {inb : ∀ a, off a + S1x16.size a ≤ S4x128.size a} {v : S16.Idx → BitVec 32}
    {hx : (m.access (Rect.unit (s := S4x128) off S1x16.size inb)).Stores Finset.univ}
    {hm : (Finset.univ : Finset (Rect.unit (s := S4x128) off S1x16.size inb).shape.Idx) = Finset.univ ∨ ∀ a, (Rect.unit (s := S4x128) off S1x16.size inb).stride a = 1}
    {k : PUnit → Prog (TpuEff nD τ sig (Elt F) Λ₀ (thr d i).2) α} {f : Buf (Elt F) (m.view.loc (thr d i))}
    (t : ℕ) (ht : t < 32) (hoff : off = ![t / 8, 16 * (t % 8)]) :
    (m.view.loc (thr d i) ↦[Finset.univ]{fullShare} f)
      ⊢ iprop((∀ f', ⌜m.view.read (Elt F) f' = stored t v (m.view.read (Elt F) f)⌝ -∗ (m.view.loc (thr d i) ↦[Finset.univ]{fullShare} f')
          -∗ wp frame (wpE defs₀ 𝒱₀ (thr d i) none) Set.univ (k ⟨⟩) Q)
        -∗ wp (M := 𝕄) frame (wpE defs₀ 𝒱₀ (thr d i) none) Set.univ
            (.op (.store m (Rect.unit (s := S4x128) off S1x16.size inb) (shapeCast S1x16 v shapeCasts_S16_S1x16) Finset.univ hx hm) k) Q) := by
  iintro Hm Hk
  iapply (wp_store 𝒱₀ (thr d i) none Set.univ (m := m) (r := Rect.unit (s := S4x128) off S1x16.size inb) (Mk := Finset.univ) (S := Finset.univ)
    (Finset.subset_univ _)) $$ Hm
  iintro Hm
  iapply Hk $$ %_ [] Hm
  ipureintro
  exact read_stored t ht hoff f v

end

/-! ## Sixteen entries of the tile's result -/

/-- A 512-entry scratch after sixteen values are written at `16 t … 16 t + 15`. -/
def storedOut (t : ℕ) (v : S16.Idx → F .f32) (f : S512.Idx → F .f32) : S512.Idx → F .f32 :=
  fun p => if 16 * t ≤ (p 0).val ∧ (p 0).val < 16 * t + 16 then v (ix1 ⟨(p 0).val % 16, Nat.mod_lt _ (by decide)⟩) else f p

theorem read_storedOut {m : Memref sig Kind.scVector Space.vmem S512 .f32} {off : Fin 1 → ℕ}
    {inb : ∀ a, off a + S16.size a ≤ S512.size a} (t : ℕ) (ht : t < 32) (hoff : off = ![16 * t])
    (f : m.view.ty.Contents (Elt F)) (v : S16.Idx → F .f32) :
    m.view.read (Elt F) ((m.access (Rect.unit (s := S512) off S16.size inb)).write (Elt F) f v Finset.univ)
      = storedOut t v (m.view.read (Elt F) f) := by
  subst hoff
  funext p
  have h0 : (p 0).val < 512 := (p 0).isLt
  unfold storedOut
  split
  · rename_i h
    refine (View.read_writes_cons_unit_of_mem m.view f inb v [] p (ix1 ⟨(p 0).val % 16, Nat.mod_lt _ (by decide)⟩) rfl ?_)
    intro a
    obtain rfl : a = 0 := Subsingleton.elim _ _
    show (p 0).val = 16 * t + (p 0).val % 16
    omega
  · refine View.read_writes_cons_unit_of_not_mem m.view f inb v [] p rfl (0 : Fin 1) ?_
    show (p 0).val < 16 * t ∨ 16 * t + 16 ≤ (p 0).val
    omega

theorem off2_eq (t : Fin k0_t1_loop.trips) : k0_off2 t = ![t.val / 8, 16 * (t.val % 8)] := by revert t; decide +kernel
theorem off4_eq (t : Fin k0_t1_loop.trips) : k0_off4 t = ![t.val / 8, 16 * (t.val % 8)] := by revert t; decide +kernel
theorem off5_eq (t : Fin k0_t1_loop.trips) : k0_off5 t = ![t.val / 8, 16 * (t.val % 8)] := by revert t; decide +kernel
theorem off6_eq (t : Fin k0_t3_loop.trips) : k0_off6 t = ![t.val / 8, 16 * (t.val % 8)] := by revert t; decide +kernel

/-! ## The head of a trip: sixteen columns, summed and counted -/

section
variable (d : Dev nD) (i : grid0.Coords)

/-- The first seven columns. -/
theorem wp_part1 (W : S16384x256.Idx → F .f32) (t : Fin k0_t1_loop.trips)
    {Q : (Σ' (_ : BitVec 32) (_ : BitVec 32) (_ : IVec S16 32) (_ : FVec F S16 .f32) (_ : IVec S16 32), BitVec 32) → sProp 𝕄} :
    (aV.view.loc (thr d i) ↦[Finset.univ]{fullShare} (headBlk W i))
      ⊢ iprop(((aV.view.loc (thr d i) ↦[Finset.univ]{fullShare} (headBlk W i))
          -∗ Q ⟨Scf.iv 0#32 1#32 t, Scalar.muli (Scf.iv 0#32 1#32 t) 16#32, k0_pay2 lanes 0#32 1#32 t,
              fun x => acc (rowsOf W (grp i t) x) 6, fun x => cnt (rowsOf W (grp i t) x) 6, 7#32⟩)
        -∗ wp (M := 𝕄) frame (wpE defs₀ 𝒱₀ (thr d i) none) Set.univ (part1 (F := F) i t) Q) := by
  have ht : t.val < 32 := lt_of_lt_of_le t.isLt k0_t1_abs.2.1
  have hr := rows_lane t
  simp only [part1, k0_part1_eq_skeleton]
  unfold k0_part1_skel
  simp only [Prog.lift, Prog.bind_op, Prog.bind_ret, Prog.pure_eq_ret]
  iintro Ha HQ
  iapply (wp_headCol d i W t.val ht 0 (by decide) hr (fun _ => rfl) (chk_head hr ht 0 (by decide) (fun _ => rfl))) $$ Ha; iintro Ha
  iapply (wp_headCol d i W t.val ht 1 (by decide) hr (fun _ => rfl) (chk_head hr ht 1 (by decide) (fun _ => rfl))) $$ Ha; iintro Ha
  iapply (wp_headCol d i W t.val ht 2 (by decide) hr (fun _ => rfl) (chk_head hr ht 2 (by decide) (fun _ => rfl))) $$ Ha; iintro Ha
  iapply (wp_headCol d i W t.val ht 3 (by decide) hr (fun _ => rfl) (chk_head hr ht 3 (by decide) (fun _ => rfl))) $$ Ha; iintro Ha
  iapply (wp_headCol d i W t.val ht 4 (by decide) hr (fun _ => rfl) (chk_head hr ht 4 (by decide) (fun _ => rfl))) $$ Ha; iintro Ha
  iapply (wp_headCol d i W t.val ht 5 (by decide) hr (fun _ => rfl) (chk_head hr ht 5 (by decide) (fun _ => rfl))) $$ Ha; iintro Ha
  iapply (wp_headCol d i W t.val ht 6 (by decide) hr (fun _ => rfl) (chk_head hr ht 6 (by decide) (fun _ => rfl))) $$ Ha; iintro Ha
  rw [wp_ret, acc_first, cnt_first]
  imodintro
  iapply HQ $$ Ha

/-- The next eight columns. -/
theorem wp_part2 (W : S16384x256.Idx → F .f32) (t : Fin k0_t1_loop.trips)
    {Q : (Σ' (_ : IVec S16 32), FVec F S16 .f32) → sProp 𝕄} :
    (aV.view.loc (thr d i) ↦[Finset.univ]{fullShare} (headBlk W i))
      ⊢ iprop(((aV.view.loc (thr d i) ↦[Finset.univ]{fullShare} (headBlk W i))
          -∗ Q ⟨fun x => cnt (rowsOf W (grp i t) x) 13, fun x => acc (rowsOf W (grp i t) x) 14⟩)
        -∗ wp (M := 𝕄) frame (wpE defs₀ 𝒱₀ (thr d i) none) Set.univ
            (part2 (F := F) i (k0_pay2 lanes 0#32 1#32 t) (fun x => acc (rowsOf W (grp i t) x) 6) (fun x => cnt (rowsOf W (grp i t) x) 6) 7#32) Q) := by
  have ht : t.val < 32 := lt_of_lt_of_le t.isLt k0_t1_abs.2.1
  have hr := rows_lane t
  simp only [part2, k0_part2_eq_skeleton]
  unfold k0_part2_skel
  simp only [Prog.lift, Prog.bind_op, Prog.bind_ret, Prog.pure_eq_ret]
  iintro Ha HQ
  iapply (wp_headCol d i W t.val ht 7 (by decide) hr (fun _ => rfl) (chk_head hr ht 7 (by decide) (fun _ => rfl))) $$ Ha; iintro Ha
  iapply (wp_headCol d i W t.val ht 8 (by decide) hr (fun _ => rfl) (chk_head hr ht 8 (by decide) (fun _ => rfl))) $$ Ha; iintro Ha
  iapply (wp_headCol d i W t.val ht 9 (by decide) hr (fun _ => rfl) (chk_head hr ht 9 (by decide) (fun _ => rfl))) $$ Ha; iintro Ha
  iapply (wp_headCol d i W t.val ht 10 (by decide) hr (fun _ => rfl) (chk_head hr ht 10 (by decide) (fun _ => rfl))) $$ Ha; iintro Ha
  iapply (wp_headCol d i W t.val ht 11 (by decide) hr (fun _ => rfl) (chk_head hr ht 11 (by decide) (fun _ => rfl))) $$ Ha; iintro Ha
  iapply (wp_headCol d i W t.val ht 12 (by decide) hr (fun _ => rfl) (chk_head hr ht 12 (by decide) (fun _ => rfl))) $$ Ha; iintro Ha
  iapply (wp_headCol d i W t.val ht 13 (by decide) hr (fun _ => rfl) (chk_head hr ht 13 (by decide) (fun _ => rfl))) $$ Ha; iintro Ha
  iapply (wp_headCol d i W t.val ht 14 (by decide) hr (fun _ => rfl) (chk_head hr ht 14 (by decide) (fun _ => rfl))) $$ Ha; iintro Ha
  rw [wp_ret, acc_second, cnt_second]
  imodintro
  iapply HQ $$ Ha

/-- The sixteenth column, and the store of the sixteen head counts. -/
theorem wp_part3 (W : S16384x256.Idx → F .f32) (t : Fin k0_t1_loop.trips) (fn : Buf (Elt F) (nV.view.loc (thr d i)))
    {Q : (Σ' (_ : FVec F S16 .f32) (_ : IVec S16 32) (_ : BitVec 32), BitVec 32) → sProp 𝕄} :
    iprop((aV.view.loc (thr d i) ↦[Finset.univ]{fullShare} (headBlk W i)) ∗ (nV.view.loc (thr d i) ↦[Finset.univ]{fullShare} fn))
      ⊢ iprop((∀ fn' u v, ⌜nV.view.read (Elt F) fn' = stored t.val (headCnt W (grp i t)) (nV.view.read (Elt F) fn)⌝
            -∗ (aV.view.loc (thr d i) ↦[Finset.univ]{fullShare} (headBlk W i)) -∗ (nV.view.loc (thr d i) ↦[Finset.univ]{fullShare} fn')
          -∗ Q ⟨fun x => acc (rowsOf W (grp i t) x) 15, headCnt W (grp i t), u, v⟩)
        -∗ wp (M := 𝕄) frame (wpE defs₀ 𝒱₀ (thr d i) none) Set.univ
            (part3 (F := F) i k0_pay23 k0_pay24 k0_pay25 t (Scf.iv 0#32 1#32 t) (k0_pay2 lanes 0#32 1#32 t)
              (fun x => cnt (rowsOf W (grp i t) x) 13) (fun x => acc (rowsOf W (grp i t) x) 14)) Q) := by
  have ht : t.val < 32 := lt_of_lt_of_le t.isLt k0_t1_abs.2.1
  have hr := rows_lane t
  rw [show headCnt W (grp i t) = fun x => cnt (rowsOf W (grp i t) x) 15 from rfl]
  simp only [part3, k0_part3_eq_skeleton]
  unfold k0_part3_skel
  simp only [Prog.lift, Prog.bind_op, Prog.bind_ret, Prog.pure_eq_ret]
  iintro ⟨Ha, Hn⟩ HQ
  iapply (wp_headCol d i W t.val ht 15 (by decide) hr (fun _ => rfl) (chk_head hr ht 15 (by decide) (fun _ => rfl))) $$ Ha; iintro Ha
  iapply (wp_loadRow d i (m := nV)) $$ Hn; iintro Hn
  iapply (wp_storeRow d i (m := nV) t.val ht (off2_eq t)) $$ Hn; iintro %fn' %hfn' Hn
  rw [wp_ret, acc_third, cnt_third]
  imodintro
  iapply HQ $$ %fn' %_ %_ [] Ha Hn
  ipureintro
  rw [hfn', cnt_third]

/-! ## The rest of a row, when a head count is sixteen -/

/-- After `k` trips of the sum over a row's last 240 entries. -/
def sumInv (W : S16384x256.Idx → F .f32) (g k : ℕ) (a : FVec F S16 .f32 × IVec S16 32) : sProp 𝕄 :=
  iprop((bV.view.loc (thr d i) ↦[Finset.univ]{fullShare} (tailBlk W g))
    ∗ ⌜a = ⟨fun x => acc (rowsOf W g x) (15 + k), fun x => cnt (rowsOf W g x) (15 + k)⟩⌝)

theorem sum_trip (W : S16384x256.Idx → F .f32) (g : ℕ) (v225 : BitVec 32) (h1 : k0_cond1 v225 = 1#1)
    (k : Fin k0_t2_loop.trips) (a : FVec F S16 .f32 × IVec S16 32) :
    sumInv d i W g k.val a
      ⊢ wp (M := 𝕄) frame (wpE defs₀ 𝒱₀ (thr d i) none) Set.univ (sumBody (F := F) i v225 h1 k a) (sumInv d i W g (k.val + 1)) := by
  have hk : k.val < 240 := lt_of_lt_of_le k.isLt k0_t2_abs.2.1
  have hc : ∀ x : S16.Idx, (broadcast S16 (Scf.iv 0#32 1#32 k) x).toNat = k.val := fun x => iv_toNat k.val (by omega)
  have hr : ∀ x : S16.Idx, (lanes x).toNat = (x 0).val := fun x => by
    have hx : (x 0).val < 16 := (x 0).isLt
    show (BitVec.ofNat 32 (0 * 16 + (x 0).val)).toNat = _
    rw [BitVec.toNat_ofNat]; omega
  have hchk : k0_chk17 lanes v225 (broadcast S16 (Scf.iv 0#32 1#32 k)) := fun _ => by
    refine Fin.forall_fin_two.mpr ⟨fun x => ?_, fun x => ?_⟩
    · have hx : (x 0).val < 16 := (x 0).isLt
      show (lanes x).toNat < 16
      rw [hr]; exact hx
    · show (broadcast S16 (Scf.iv 0#32 1#32 k) x).toNat < 240
      rw [hc]; exact hk
  unfold sumInv
  iintro ⟨Hb, %ha⟩
  subst ha
  simp only [sumBody, k0_t2_body, Prog.lift, Prog.bind_op, Prog.bind_ret, Prog.pure_eq_ret]
  iapply (wp_tailCol d i W g k.val hk hr hc (h := fun w => w h1) hchk) $$ Hb; iintro Hb
  rw [wp_ret]
  imodintro
  isplitl [Hb]; · iexact Hb
  ipureintro
  rw [show 16 + k.val = (15 + k.val) + 1 by omega, acc_step, cnt_step]
  rfl

end

end Cert.Proof.Tile
-- ==== Proof.Trips.lean ====
/-
  One trip of the tile's loop over its rows, sixteen rows at a time: their counts and positions are written.
-/
module

public import proofs.«01_k».proof.Proof.Steps

@[expose] public section

noncomputable section

namespace Cert.Proof.Tile

open Cert.KernelIdeal Cert.KernelIdeal.Gen Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

/-- What the loop over the rows holds after `k` trips: the counts and positions of the first `16 k` rows in place. -/
def rowsInv (W : S16384x256.Idx → F .f32) (q : PosShare TreeShare) (O : CellTallies nD τ sig (HIx 1)) (Wt : Waits sig (HIx 1)) (k : ℕ) (_ : BitVec 32) : sProp 𝕄 :=
  iprop(Transfers.MayWaits (thr d i) (none : HIx 1) O
    ∗ (wV.view.loc (thr d i) ↦{q} W)
    ∗ (aV.view.loc (thr d i) ↦[Finset.univ]{fullShare} (headBlk W i))
    ∗ (∃ fb, bV.view.loc (thr d i) ↦{fullShare} fb)
    ∗ (∃ fn, ⌜∀ p, lin p < 16 * k → nV.view.read (Elt F) fn p = rowCnt W (base i + lin p)⌝ ∗ (nV.view.loc (thr d i) ↦[Finset.univ]{fullShare} fn))
    ∗ (∃ fi, ⌜∀ p, lin p < 16 * k → iV.view.read (Elt F) fi p = rowPos W (base i + lin p)⌝ ∗ (iV.view.loc (thr d i) ↦[Finset.univ]{fullShare} fi))
    ∗ semVal (thr d i, SemLoc.dma cc0_scoped1.sem) 0
    ∗ ∃ W', ⌜∀ p ∈ W', p ∈ Wt ∨ p.2 = none⌝ ∗ owes (thr d i) O W')

/-! ## Which rows are done -/

theorem stored_lt {t : ℕ} {v : S16.Idx → BitVec 32} {f : S4x128.Idx → BitVec 32} {p : S4x128.Idx} (h : lin p < 16 * t) : stored t v f p = f p :=
  if_neg (by omega)

theorem stored_slot {t : ℕ} (ht : t < 32) {v : S16.Idx → BitVec 32} {f : S4x128.Idx → BitVec 32} (x : S16.Idx) : stored t v f (slot t ht x) = v x := by
  have hx : (x 0).val < 16 := (x 0).isLt
  unfold stored
  rw [if_pos (by rw [lin_slot]; omega)]
  congr 1
  rw [eq_ix1 x]
  congr 1
  refine Fin.ext ?_
  show lin (slot t ht (ix1 (x 0))) % 16 = (x 0).val
  rw [lin_slot]
  show (16 * t + (x 0).val) % 16 = (x 0).val
  omega

/-- Sixteen more entries done. -/
theorem stored_done {t : ℕ} {v : S16.Idx → BitVec 32} {f : S4x128.Idx → BitVec 32} {R : ℕ → BitVec 32}
    (hf : ∀ p, lin p < 16 * t → f p = R (lin p)) (hv : ∀ x, v x = R (16 * t + (x 0).val)) :
    ∀ p, lin p < 16 * (t + 1) → stored t v f p = R (lin p) := by
  intro p hp
  unfold stored
  split
  · rename_i h
    rw [hv]
    congr 1
    show 16 * t + lin p % 16 = lin p
    omega
  · exact hf p (by omega)

theorem rowCnt_group (W : S16384x256.Idx → F .f32) (t : ℕ) (x : S16.Idx) : groupCnt W (grp i t) x = rowCnt W (base i + (16 * t + (x 0).val)) := by
  rw [← rowCnt_lane, Nat.add_assoc]

/-! ## The trip -/

/-- The end of a trip: the counts are read back and the positions stored. -/
theorem wp_positions (W : S16384x256.Idx → F .f32) (t : Fin k0_t1_loop.trips) (ht : t.val < 32)
    (fn : Buf (Elt F) (nV.view.loc (thr d i))) (fi : Buf (Elt F) (iV.view.loc (thr d i)))
    (hn : ∀ p, lin p < 16 * (t.val + 1) → nV.view.read (Elt F) fn p = rowCnt W (base i + lin p))
    (hi : ∀ p, lin p < 16 * t.val → iV.view.read (Elt F) fi p = rowPos W (base i + lin p)) {Q : BitVec 32 → sProp 𝕄} :
    iprop((nV.view.loc (thr d i) ↦[Finset.univ]{fullShare} fn) ∗ (iV.view.loc (thr d i) ↦[Finset.univ]{fullShare} fi))
      ⊢ iprop((∀ fi', ⌜∀ p, lin p < 16 * (t.val + 1) → iV.view.read (Elt F) fi' p = rowPos W (base i + lin p)⌝
            -∗ (nV.view.loc (thr d i) ↦[Finset.univ]{fullShare} fn) -∗ (iV.view.loc (thr d i) ↦[Finset.univ]{fullShare} fi') -∗ Q 0#32)
        -∗ wp (M := 𝕄) frame (wpE defs₀ 𝒱₀ (thr d i) none) Set.univ
          (.op (.load nV (Rect.unit (s := S4x128) (k0_off5 t) S1x16.size (k0_off5_inb t)).toLoadRect (View.loadsAt_vmem h_S1x16)) fun v =>
            .op (.load iV (Rect.unit (s := S4x128) (k0_off5 t) S1x16.size (k0_off5_inb t)).toLoadRect (View.loadsAt_vmem h_S1x16)) fun _ =>
              .op (.store iV (Rect.unit (s := S4x128) (k0_off5 t) S1x16.size (k0_off5_inb t))
                (shapeCast S1x16 (k0_pay29 i (Scalar.muli (Scf.iv 0#32 1#32 t) 16#32) v) shapeCasts_S16_S1x16) Finset.univ
                (View.stores_vmem_bits_univ h_S1x16 rfl) (.inl rfl)) fun _ => .ret 0#32) Q) := by
  iintro ⟨Hn, Hi⟩ HQ
  iapply (wp_loadRow d i (m := nV)) $$ Hn; iintro Hn
  iapply (wp_loadRow d i (m := iV)) $$ Hi; iintro Hi
  iapply (wp_storeRow d i (m := iV) t.val ht (off5_eq t)) $$ Hi; iintro %fi' %hfi' Hi
  rw [wp_ret]
  imodintro
  iapply HQ $$ %fi' [] Hn Hi
  ipureintro
  rw [hfi', pos_lane W i t.val ht _ (row0_eq t.val ht)]
  · exact stored_done (R := fun n => rowPos W (base i + n)) hi fun x => by rw [Nat.add_assoc]
  · rw [row_lane t.val ht (off5_eq t)]
    funext x
    have hx : (x 0).val < 16 := (x 0).isLt
    rw [hn _ (by rw [lin_slot]; omega), lin_slot, rowCnt_group]

/-- What the copy of a group's last 240 entries lands. -/
theorem read_tailSrc (W : S16384x256.Idx → F .f32) (t : Fin k0_t1_loop.trips) (ht : t.val < 32) :
    (wV.slice (Rect.unit (s := S16384x256) (k0_off3 i t) S16x240.size (k0_off3_inb i t)) (fun _ => rfl)).view.read (Elt F) W = tailBlk W (grp i t.val) := by
  have hb := base_le i
  funext p
  have h0 : (p 0).val < 16 := (p 0).isLt
  have h1 : (p 1).val < 240 := (p 1).isLt
  rw [View.read_apply]
  show W _ = W _
  congr 1
  refine funext (Fin.forall_fin_two.mpr ⟨Fin.ext ?_, Fin.ext ?_⟩)
  · refine (congrArg (· + 1 * (p 0).val) (congrFun (k0_off3_eq i t) 0)).trans ?_
    rw [grp_row]
    show base i + 16 * t.val + 1 * (p 0).val = (base i + 16 * t.val + (p 0).val) % 16384
    omega
  · refine (congrArg (· + 1 * (p 1).val) (congrFun (k0_off3_eq i t) 1)).trans ?_
    show 16 + 1 * (p 1).val = (16 + (p 1).val) % 256
    omega

theorem sum_trips : k0_t2_loop.trips = 240 := by decide +kernel

set_option maxHeartbeats 4000000 in
/-- One trip over sixteen rows. -/
theorem rows_trip (W : S16384x256.Idx → F .f32) (q : PosShare TreeShare) (O : CellTallies nD τ sig (HIx 1)) (Wt : Waits sig (HIx 1))
    (t : Fin k0_t1_loop.trips) (z : BitVec 32) :
    rowsInv d i W q O Wt t.val z
      ⊢ wp (M := 𝕄) frame (wpE defs₀ 𝒱₀ (thr d i) none) Set.univ (rowsBody (F := F) i t z) (rowsInv d i W q O Wt (t.val + 1)) := by
  have ht : t.val < 32 := lt_of_lt_of_le t.isLt k0_t1_abs.2.1
  unfold rowsInv
  iintro ⟨Hmw, Hw, Ha, ⟨%fb, Hb⟩, ⟨%fn, %hn, Hn⟩, ⟨%fi, %hi, Hi⟩, Hsem, %W', %hW', HO⟩
  simp only [rowsBody, k0_t1_body, Prog.lift, Prog.bind_op, Prog.bind_ret, Prog.pure_eq_ret]
  rw [wp_bind]
  iapply (wp_part1 d i W t) $$ Ha; iintro Ha
  dsimp only
  rw [wp_bind]
  iapply (wp_part2 d i W t) $$ Ha; iintro Ha
  dsimp only
  rw [wp_bind]
  iapply (wp_part3 d i W t) $$ [Ha Hn]
  · isplitl [Ha] <;> iassumption
  iintro %fn' %u %v %hfn' Ha Hn
  dsimp only
  by_cases hg : k0_cond1 (extractAt ![15] (k0_pay26 (headCnt W (grp i t))) inpos_S16_p15) = 1#1
  · rw [dif_pos hg]
    ihave Hw' := (show (wV.view.loc (thr d i) ↦{q} W : sProp 𝕄) ⊢ (wV.view.loc (thr d i) ↦{q} W) from .rfl) $$ Hw
    ihave Hb' := (show (bV.view.loc (thr d i) ↦{fullShare} fb : sProp 𝕄) ⊢ (bV.view.loc (thr d i) ↦{fullShare} fb) from .rfl) $$ Hb
    sl_exec
    have hb : View.write (Elt F) bV.view fb (rows_trip.sl.dma0 i W t) Finset.univ = tailBlk W (grp i t.val) := by
      unfold rows_trip.sl.dma0
      exact (View.write_whole_univ _ _ _).trans (read_tailSrc i W t ht)
    rw [hb]
    sl_for (sumInv d i W (grp i t.val)) $$ [Hb']
    case region =>
      intro k a
      exact sum_trip d i W (grp i t.val) _ hg k a
    · unfold sumInv
      isplitl [Hb']; · iexact Hb'
      ipureintro; rfl
    iintro %a HI
    unfold sumInv
    icases HI with ⟨Hb', %ha⟩
    rw [show Scf.trips k0_t2_loop.lb k0_t2_loop.ub k0_t2_loop.st = 240 from sum_trips] at ha
    subst ha
    unfold rows_trip.sl.prog.cont_1
    dsimp only
    iapply (wp_loadRow d i (m := nV)) $$ Hn; iintro Hn
    iapply (wp_storeRow d i (m := nV) t.val ht (off4_eq t)) $$ Hn; iintro %fn2 %hfn2 Hn
    have hn2 : ∀ p, lin p < 16 * (t.val + 1) → nV.view.read (Elt F) fn2 p = rowCnt W (base i + lin p) := by
      rw [hfn2, hfn']
      refine stored_done (R := fun n => rowCnt W (base i + n)) (fun p hp => (stored_lt hp).trans (hn p hp)) fun x => ?_
      rw [← rowCnt_group]
      unfold groupCnt
      rw [if_pos (show goesOn W (grp i t.val) from hg)]
    iapply (wp_positions d i W t ht fn2 fi hn2 hi) $$ [Hn Hi]
    · isplitl [Hn] <;> iassumption
    iintro %fi' %hi' Hn Hi
    isplitl [Hmw]; · iexact Hmw
    isplitl [Hw']; · iexact Hw'
    isplitl [Ha]; · iexact Ha
    isplitl [Hb']; · iexists _; iexact Hb'
    isplitl [Hn]
    · iexists fn2; isplitr
      · ipureintro; exact hn2
      · iexact Hn
    isplitl [Hi]
    · iexists fi'; isplitr
      · ipureintro; exact hi'
      · iexact Hi
    isplitl [Hsem]; · iexact Hsem
    iexists (insert (SemLoc.dma cc0_scoped1.sem, (default : HIx 1)) W'); isplitr
    · ipureintro; intro p hp
      rcases Finset.mem_insert.mp hp with hp | hp
      · exact .inr (hp ▸ rfl)
      · exact hW' p hp
    · iexact HO
  · rw [dif_neg hg]
    have hn2 : ∀ p, lin p < 16 * (t.val + 1) → nV.view.read (Elt F) fn' p = rowCnt W (base i + lin p) := by
      rw [hfn']
      refine stored_done (R := fun n => rowCnt W (base i + n)) hn fun x => ?_
      rw [← rowCnt_group]
      unfold groupCnt
      rw [if_neg (show ¬goesOn W (grp i t.val) from hg)]
    iapply (wp_positions d i W t ht fn' fi hn2 hi) $$ [Hn Hi]
    · isplitl [Hn] <;> iassumption
    iintro %fi' %hi' Hn Hi
    isplitl [Hmw]; · iexact Hmw
    isplitl [Hw]; · iexact Hw
    isplitl [Ha]; · iexact Ha
    isplitl [Hb]; · iexists _; iexact Hb
    isplitl [Hn]
    · iexists fn'; isplitr
      · ipureintro; exact hn2
      · iexact Hn
    isplitl [Hi]
    · iexists fi'; isplitr
      · ipureintro; exact hi'
      · iexact Hi
    isplitl [Hsem]; · iexact Hsem
    iexists W'; isplitr
    · ipureintro; exact hW'
    · iexact HO

end Cert.Proof.Tile
-- ==== Proof.Streams.lean ====
/-
  The eight indirect gathers of a tile: four rows of positions, each naming the entries of the two tables that one row of
  each of the two value scratches takes. All eight are under way together on one semaphore.
-/
module

public import proofs.«01_k».proof.Proof.Trips

@[expose] public section

noncomputable section

namespace Cert.Proof.Tile

open Cert.KernelIdeal Cert.KernelIdeal.Gen Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch
open Idealize.ShloMosaic.SparseCore Idealize.ShloMosaic.Transfers

variable {F : FTy → Type}

local notation "𝕄" => MT nD τ sig (HIx 1) (Elt F) ℕ UU ℕ

variable [FloatOps F]

theorem four_pos : 0 < 4 := by decide
theorem two_pos' : 0 < 2 := by decide

/-- A family weakened member by member. -/
theorem weaken {m : ℕ} {Φ Ψ : Fin m → sProp 𝕄} (h : ∀ j, Φ j ⊢ Ψ j) : bigSep Finset.univ Φ ⊢ bigSep Finset.univ Ψ :=
  BI.bigSep_mono fun j _ => h j

/-! ## Rows of the 4 × 128 scratches -/

/-- The entries of row `j` of a 4 × 128 scratch. -/
abbrev rowRect (j : ℕ) (h : ∀ a, (![j, 0] : Fin 2 → Nat) a + S1x128.size a ≤ S4x128.size a) : Rect S4x128 := Rect.unit (s := S4x128) ![j, 0] S1x128.size h

theorem row_inb (j : Fin 4) : ∀ a, (![j.val, 0] : Fin 2 → Nat) a + S1x128.size a ≤ S4x128.size a := by
  have hj := j.isLt
  intro a
  match a with
  | ⟨0, _⟩ => show j.val + 1 ≤ 4; omega
  | ⟨1, _⟩ => show 0 + 128 ≤ 128; omega

/-- Row `j` of a 4 × 128 scratch, as a list of 128. -/
abbrev rowM {e : EltTy} (M : Memref sig Kind.scVector .vmem S4x128 e) (j : Fin 4) : Memref sig Kind.scVector .vmem S128 e :=
  (M.slice (rowRect j.val (row_inb j)) (fun _ => rfl)).squeeze S128 squeezes_S1x128_S128

/-- A whole table, as the slice of it that starts at its head. -/
abbrev allT (T : Memref sig Kind.scVector .hbm S4194304 .f32) : Memref sig Kind.scVector .hbm S4194304 .f32 :=
  T.slice (Rect.unit (s := S4194304) ![0] S4194304.size inb_S4194304_S4194304_0) (fun _ => rfl)

theorem rowM_emb {e : EltTy} (M : Memref sig Kind.scVector .vmem S4x128 e) (j : Fin 4) (x : S128.Idx) :
    (rowM M j).view.emb x = M.view.emb (ix2 j (x 0)) := by
  have h : Shape.reshapeEquiv (s := S1x128) (s' := S128) squeezes_S1x128_S128.numel_eq x = Fin.cons ⟨0, Nat.one_pos⟩ x :=
    Shape.reshapeEquiv_cons_one _ x
  show M.view.emb ((rowRect j.val (row_inb j)).emb (Shape.reshapeEquiv _ x)) = _
  refine congrArg M.view.emb (funext fun a => Fin.ext ?_)
  match a with
  | ⟨0, _⟩ =>
    refine (congrArg (fun y : S1x128.Idx => j.val + 1 * (y 0).val) h).trans ?_
    show j.val + 1 * 0 = j.val
    omega
  | ⟨1, _⟩ =>
    refine (congrArg (fun y : S1x128.Idx => 0 + 1 * (y 1).val) h).trans ?_
    show 0 + 1 * (x 0).val = (x 0).val
    omega

theorem allT_emb (T : Memref sig Kind.scVector .hbm S4194304 .f32) (x : S4194304.Idx) : (allT T).view.emb x = T.view.emb x := by
  show T.view.emb ((Rect.unit (s := S4194304) ![0] S4194304.size inb_S4194304_S4194304_0).emb x) = _
  refine congrArg T.view.emb (funext fun a => Fin.ext ?_)
  match a with
  | ⟨0, _⟩ =>
    show 0 + 1 * (x 0).val = (x 0).val
    omega

theorem allT_set (T : Memref sig Kind.scVector .hbm S4194304 .f32) : (allT T).view.set = T.view.set := by
  show Finset.univ.map (allT T).view.emb = Finset.univ.map T.view.emb
  exact congrArg (Finset.univ.map ·) (DFunLike.ext _ _ (allT_emb T))

/-- A list row's elements are those of the scratch's row. -/
theorem rowM_set {e : EltTy} (M : Memref sig Kind.scVector .vmem S4x128 e) (j : Fin 4) :
    (M.view.slice (S4x128.rowRect 0 j)).set = (rowM M j).view.set := by
  have h : (S4x128.rowRect 0 j).set = (rowRect j.val (row_inb j)).set := by
    ext x
    have hx : (x 1).val < 128 := (x 1).isLt
    constructor
    · intro hm
      have h0 := (Rect.mem_set_unit.mp hm) 0
      refine Rect.mem_set_unit.mpr fun a => ?_
      match a with
      | ⟨0, _⟩ => exact h0
      | ⟨1, _⟩ => exact ⟨Nat.zero_le _, by show (x 1).val < 0 + 128; omega⟩
    · intro hm
      have h0 := (Rect.mem_set_unit.mp hm) 0
      refine Rect.mem_set_unit.mpr fun a => ?_
      match a with
      | ⟨0, _⟩ => exact h0
      | ⟨1, _⟩ => exact ⟨Nat.zero_le _, by show (x 1).val < 0 + 128; omega⟩
  refine ((View.set_slice _ _).trans ?_).trans (View.set_reshape _ _).symm
  refine Eq.trans ?_ (View.set_slice _ _).symm
  exact congrArg (Finset.map M.view.emb) h

section
variable (d : Dev nD) (i : grid0.Coords)

/-- A 4 × 128 scratch is held as its four rows. -/
theorem rows_held {e : EltTy} (M : Memref sig Kind.scVector .vmem S4x128 e) (q : PosShare TreeShare) (f : Buf (Elt F) (M.view.loc (thr d i))) :
    (M.view.loc (thr d i) ↦[M.view.set]{q} f : sProp 𝕄)
      = bigSep Finset.univ fun j : Fin 4 => ((rowM M j).view.loc (thr d i) ↦[(rowM M j).view.set]{q} f) := by
  refine (pointsTo_rows (thr d i) M.view (0 : Fin S4x128.rank) q f).trans ?_
  refine congrArg (bigSep Finset.univ) (funext fun j => ?_)
  exact congrArg (fun I => (M.view.loc (thr d i) ↦[I]{q} f : sProp 𝕄)) (rowM_set M j)

/-- The entry of a table which row `r` of the tile's 512 reads. -/
def named (W : S16384x256.Idx → F .f32) (j : Fin 4) (l : Fin 128) : Fin 4194304 :=
  ⟨(rowPos W (base i + (128 * j.val + l.val))).toNat % 4194304, Nat.mod_lt _ (by decide)⟩

theorem named_rows (W : S16384x256.Idx → F .f32) (fi : Buf (Elt F) (iV.view.loc (thr d i)))
    (hi : ∀ p, iV.view.read (Elt F) fi p = rowPos W (base i + lin p)) (j : Fin 4)
    (h : ∀ x, ((rowM iV j).view.read (Elt F) fi x).toNat < 4194304) :
    SparseCore.rows (si := S128) (o := 128) (z := 4194304) ((rowM iV j).view.read (Elt F) fi) rfl h = named i W j := by
  funext l
  refine Fin.ext ?_
  have hx : S128.rowMajor.symm (l.cast (show 128 = S128.numel from rfl)) = ix1 l := by
    refine (Equiv.symm_apply_eq _).mpr (Fin.ext ?_)
    rw [Shape.rowMajor_val_one]
    rfl
  show ((rowM iV j).view.read (Elt F) fi (S128.rowMajor.symm (l.cast _))).toNat = _
  rw [hx]
  have e : (rowM iV j).view.read (Elt F) fi (ix1 l) = iV.view.read (Elt F) fi (ix2 j l) := by
    rw [View.read_apply, View.read_apply, rowM_emb]
  have hp : base i + lin (ix2 j l) < 16384 := by
    have h1 := base_le i
    have h2 := j.isLt
    have h3 := l.isLt
    show base i + (128 * j.val + l.val) < 16384
    omega
  rw [e, hi]
  exact (Nat.mod_eq_of_lt (rowPos_lt W _ hp)).symm

theorem row_bound (W : S16384x256.Idx → F .f32) (fi : Buf (Elt F) (iV.view.loc (thr d i)))
    (hi : ∀ p, iV.view.read (Elt F) fi p = rowPos W (base i + lin p)) (j : Fin 4) (x : S128.Idx) :
    ((rowM iV j).view.read (Elt F) fi x).toNat < 4194304 := by
  have e : (rowM iV j).view.read (Elt F) fi x = iV.view.read (Elt F) fi (ix2 j (x 0)) := by
    rw [View.read_apply, View.read_apply, rowM_emb]
  have hp : base i + lin (ix2 j (x 0)) < 16384 := by
    have h1 := base_le i
    have h2 := j.isLt
    have h3 : (x 0).val < 128 := (x 0).isLt
    show base i + (128 * j.val + (x 0).val) < 16384
    omega
  rw [e, hi]
  exact rowPos_lt W _ hp

/-- What one entry of one gather delivers: gather `j` takes from the table `T` into row `j` of `M`. -/
def landed (T : Memref sig Kind.scVector .hbm S4194304 .f32) (M : Memref sig Kind.scVector .vmem S4x128 .f32) (q qo : PosShare TreeShare)
    (ft : Buf (Elt F) (T.view.loc (thr d i))) (fm : Buf (Elt F) (M.view.loc (thr d i))) (fi : Buf (Elt F) (iV.view.loc (thr d i)))
    (W : S16384x256.Idx → F .f32) (j : Fin 4) (l : Fin 128) : sProp 𝕄 :=
  rowLanded (thr d i) (allT T) (rowM M j) gathers_S4194304_S128 (rowM iV j) rfl (by decide) (pieceOf q 4 four_pos j) qo ft fm fi
    (named i W j) l

instance landed_storable (T : Memref sig Kind.scVector .hbm S4194304 .f32) (M : Memref sig Kind.scVector .vmem S4x128 .f32) (q qo : PosShare TreeShare)
    (ft : Buf (Elt F) (T.view.loc (thr d i))) (fm : Buf (Elt F) (M.view.loc (thr d i))) (fi : Buf (Elt F) (iV.view.loc (thr d i)))
    (W : S16384x256.Idx → F .f32) (j : Fin 4) (l : Fin 128) :
    Storable (upEmb : UEmb _ 𝕄) (landed d i T M q qo ft fm fi W j l) := by
  unfold landed
  exact rowLanded_storable _ _ _ _ _ _ _ _ _ _ _ _ _ _

/-- What a value scratch holds once its four gathers have landed. -/
def taken (T : Memref sig Kind.scVector .hbm S4194304 .f32) (M : Memref sig Kind.scVector .vmem S4x128 .f32)
    (ft : Buf (Elt F) (T.view.loc (thr d i))) (fm : Buf (Elt F) (M.view.loc (thr d i))) (W : S16384x256.Idx → F .f32) : Buf (Elt F) (M.view.loc (thr d i)) :=
  M.view.write (Elt F) fm (fun p => tabAt (T.view.read (Elt F) ft) (rowPos W (base i + lin p)).toNat) Finset.univ

theorem row_taken (T : Memref sig Kind.scVector .hbm S4194304 .f32) (M : Memref sig Kind.scVector .vmem S4x128 .f32)
    (ft : Buf (Elt F) (T.view.loc (thr d i))) (fm : Buf (Elt F) (M.view.loc (thr d i))) (W : S16384x256.Idx → F .f32) (j : Fin 4) :
    ∀ y ∈ (rowM M j).view.set,
      (rowM M j).view.write (Elt F) fm (gatherPayload gathers_S4194304_S128 ((allT T).view.read (Elt F) ft) (named i W j)) Finset.univ y
        = taken d i T M ft fm W y := by
  intro y hy
  obtain ⟨x, -, rfl⟩ := Finset.mem_map.mp hy
  refine (View.write_emb_of_mem _ _ (Finset.mem_univ x)).trans ?_
  have hx : gatherPayload gathers_S4194304_S128 ((allT T).view.read (Elt F) ft) (named i W j) x
      = tabAt (T.view.read (Elt F) ft) (rowPos W (base i + lin (ix2 j (x 0)))).toNat := by
    have hidx : gathers_S4194304_S128.idx (named i W j) x = ix1 (named i W j (x 0)) := funext fun a => by
      match a with
      | ⟨0, _⟩ => rfl
    show (allT T).view.read (Elt F) ft (gathers_S4194304_S128.idx (named i W j) x) = _
    rw [hidx, View.read_apply, allT_emb]
    rfl
  rw [hx]
  have e := rowM_emb M j x
  unfold taken
  rw [e]
  exact (View.write_emb_of_mem (v := M.view) (Val := Elt F) fm (fun p => tabAt (T.view.read (Elt F) ft) (rowPos W (base i + lin p)).toNat)
    (Finset.mem_univ (ix2 j (x 0)))).symm

/-- The four gathers from one table into one scratch, all landed. -/
theorem landed_join (T : Memref sig Kind.scVector .hbm S4194304 .f32) (M : Memref sig Kind.scVector .vmem S4x128 .f32) (q qo : PosShare TreeShare)
    (ft : Buf (Elt F) (T.view.loc (thr d i))) (fm : Buf (Elt F) (M.view.loc (thr d i))) (fi : Buf (Elt F) (iV.view.loc (thr d i)))
    (W : S16384x256.Idx → F .f32) :
    (bigSep Finset.univ fun j : Fin 4 => bigSep Finset.univ fun l : Fin 128 => landed d i T M q qo ft fm fi W j l : sProp 𝕄)
      ⊢ iprop((T.view.loc (thr d i) ↦[T.view.set]{q} ft) ∗ (M.view.loc (thr d i) ↦[M.view.set]{fullShare} taken d i T M ft fm W)
          ∗ (iV.view.loc (thr d i) ↦[iV.view.set]{qo} fi)) := by
  have hone : ∀ j : Fin 4, (bigSep Finset.univ fun l : Fin 128 => landed d i T M q qo ft fm fi W j l : sProp 𝕄)
      ⊢ iprop(((rowM M j).view.loc (thr d i) ↦[(rowM M j).view.set]{fullShare} taken d i T M ft fm W)
        ∗ (T.view.loc (thr d i) ↦[T.view.set]{pieceOf q 4 four_pos j} ft) ∗ ((rowM iV j).view.loc (thr d i) ↦[(rowM iV j).view.set]{qo} fi)) := by
    intro j
    refine (rowsLanded_join (thr d i) (allT T) (rowM M j) gathers_S4194304_S128 (rowM iV j) rfl (by decide) (pieceOf q 4 four_pos j) qo ft fm fi
      (named i W j)).trans ?_
    iintro ⟨H1, H2, H3⟩
    isplitl [H1]
    · iapply (Entails.of_eq (pointsTo_congr (row_taken d i T M ft fm W j))) $$ H1
    isplitl [H2]
    · iapply (Entails.of_eq (congrArg (fun I => (T.view.loc (thr d i) ↦[I]{pieceOf q 4 four_pos j} ft : sProp 𝕄)) (allT_set T))) $$ H2
    iexact H3
  iintro H
  ihave H := (weaken hone) $$ H
  ihave H := bigSep_sep_out _ _ _ $$ H
  icases H with ⟨Hm, H⟩
  ihave H := bigSep_sep_out _ _ _ $$ H
  icases H with ⟨Ht, Hi⟩
  isplitl [Ht]
  · iapply (Entails.of_eq (pointsTo_piecesOf T.view.set ft four_pos q).symm) $$ Ht
  isplitl [Hm]
  · iapply (Entails.of_eq (rows_held d i M fullShare _).symm) $$ Hm
  · iapply (Entails.of_eq (rows_held d i iV qo fi).symm) $$ Hi

/-- What is held whole is held as two halves. -/
theorem halves {ℓ : Loc nD τ sig} (I : Finset (Idx ℓ)) (f : Buf (Elt F) ℓ) :
    (ℓ ↦[I]{fullShare} f : sProp 𝕄) = iprop((ℓ ↦[I]{pieceOf fullShare 2 two_pos' 0} f) ∗ (ℓ ↦[I]{pieceOf fullShare 2 two_pos' 1} f)) :=
  (pointsTo_piecesOf I f two_pos' fullShare).trans (BI.bigSep_fin_two _)

/-! ## The batch of all eight gathers -/

/-- The transfers of the batch by gather and entry: for each row the gather of starts, then the gather of ends. -/
def nth : (Fin 4 × Fin 2) × Fin 128 ≃ Fin 1024 :=
  (Equiv.prodCongr (finProdFinEquiv (m := 4) (n := 2)) (Equiv.refl _)).trans (finProdFinEquiv (m := 8) (n := 128))

theorem nth_val (j : Fin 4) (b : Fin 2) (l : Fin 128) : (nth ((j, b), l)).val = 256 * j.val + 128 * b.val + l.val := by
  show l.val + 128 * (b.val + 2 * j.val) = _
  omega

/-- What each transfer of the batch delivers. -/
def delivers (q : PosShare TreeShare) (A : Buf (Elt F) (sV.view.loc (thr d i))) (B : Buf (Elt F) (eV.view.loc (thr d i)))
    (fs : Buf (Elt F) (svV.view.loc (thr d i))) (fe : Buf (Elt F) (evV.view.loc (thr d i))) (fi : Buf (Elt F) (iV.view.loc (thr d i)))
    (W : S16384x256.Idx → F .f32) (p : (Fin 4 × Fin 2) × Fin 128) : sProp 𝕄 :=
  match p.1.2 with
  | 0 => landed d i sV svV q (pieceOf fullShare 2 two_pos' 0) A fs fi W p.1.1 p.2
  | 1 => landed d i eV evV q (pieceOf fullShare 2 two_pos' 1) B fe fi W p.1.1 p.2

instance delivers_storable (q : PosShare TreeShare) (A : Buf (Elt F) (sV.view.loc (thr d i))) (B : Buf (Elt F) (eV.view.loc (thr d i)))
    (fs : Buf (Elt F) (svV.view.loc (thr d i))) (fe : Buf (Elt F) (evV.view.loc (thr d i))) (fi : Buf (Elt F) (iV.view.loc (thr d i)))
    (W : S16384x256.Idx → F .f32) (p : (Fin 4 × Fin 2) × Fin 128) :
    Storable (upEmb : UEmb _ 𝕄) (delivers d i q A B fs fe fi W p) := by
  obtain ⟨⟨j, b⟩, l⟩ := p
  match b with
  | 0 => exact landed_storable d i sV svV q _ A fs fi W j l
  | 1 => exact landed_storable d i eV evV q _ B fe fi W j l

/-- The whole batch landed: both tables back, both value scratches filled, the positions back. -/
theorem batch_join (q : PosShare TreeShare) (A : Buf (Elt F) (sV.view.loc (thr d i))) (B : Buf (Elt F) (eV.view.loc (thr d i)))
    (fs : Buf (Elt F) (svV.view.loc (thr d i))) (fe : Buf (Elt F) (evV.view.loc (thr d i))) (fi : Buf (Elt F) (iV.view.loc (thr d i)))
    (W : S16384x256.Idx → F .f32) :
    (bigSep Finset.univ fun t : Fin 1024 => delivers d i q A B fs fe fi W (nth.symm t) : sProp 𝕄)
      ⊢ iprop((sV.view.loc (thr d i) ↦{q} A) ∗ (eV.view.loc (thr d i) ↦{q} B)
          ∗ (svV.view.loc (thr d i) ↦{fullShare} (taken d i sV svV A fs W)) ∗ (evV.view.loc (thr d i) ↦{fullShare} (taken d i eV evV B fe W))
          ∗ (iV.view.loc (thr d i) ↦{fullShare} fi)) := by
  rw [BI.bigSep_univ_equiv nth]
  simp only [Equiv.symm_apply_apply]
  rw [BI.bigSep_univ_prod, BI.bigSep_univ_prod]
  simp only [BI.bigSep_fin_two]
  iintro H
  ihave H := bigSep_sep_out _ _ _ $$ H
  icases H with ⟨Hs, He⟩
  ihave Hs := (show (bigSep Finset.univ fun j : Fin 4 => bigSep Finset.univ fun l : Fin 128 => delivers d i q A B fs fe fi W ((j, 0), l) : sProp 𝕄) ⊢ _
      from landed_join d i sV svV q (pieceOf fullShare 2 two_pos' 0) A fs fi W) $$ Hs
  ihave He := (show (bigSep Finset.univ fun j : Fin 4 => bigSep Finset.univ fun l : Fin 128 => delivers d i q A B fs fe fi W ((j, 1), l) : sProp 𝕄) ⊢ _
      from landed_join d i eV evV q (pieceOf fullShare 2 two_pos' 1) B fe fi W) $$ He
  icases Hs with ⟨Hst, Hsm, Hsi⟩
  icases He with ⟨Het, Hem, Hei⟩
  isplitl [Hst]
  · iapply (Entails.of_eq (congrArg (fun I => (sV.view.loc (thr d i) ↦[I]{q} A : sProp 𝕄)) (View.set_whole _))) $$ Hst
  isplitl [Het]
  · iapply (Entails.of_eq (congrArg (fun I => (eV.view.loc (thr d i) ↦[I]{q} B : sProp 𝕄)) (View.set_whole _))) $$ Het
  isplitl [Hsm]
  · iapply (Entails.of_eq (congrArg (fun I => (svV.view.loc (thr d i) ↦[I]{fullShare} (taken d i sV svV A fs W) : sProp 𝕄)) (View.set_whole _))) $$ Hsm
  isplitl [Hem]
  · iapply (Entails.of_eq (congrArg (fun I => (evV.view.loc (thr d i) ↦[I]{fullShare} (taken d i eV evV B fe W) : sProp 𝕄)) (View.set_whole _))) $$ Hem
  ihave Hsi := (Entails.of_eq (congrArg (fun I => (iV.view.loc (thr d i) ↦[I]{pieceOf fullShare 2 two_pos' 0} fi : sProp 𝕄)) (View.set_whole cc0_scratch2))) $$ Hsi
  ihave Hei := (Entails.of_eq (congrArg (fun I => (iV.view.loc (thr d i) ↦[I]{pieceOf fullShare 2 two_pos' 1} fi : sProp 𝕄)) (View.set_whole cc0_scratch2))) $$ Hei
  iapply (Entails.of_eq (halves (F := F) (ℓ := iV.view.loc (thr d i)) Finset.univ fi).symm) $$ [Hsi Hei]
  isplitl [Hsi] <;> iassumption

/-- The pieces one gather starts from. -/
abbrev piece (T : Memref sig Kind.scVector .hbm S4194304 .f32) (M : Memref sig Kind.scVector .vmem S4x128 .f32) (q qo : PosShare TreeShare)
    (ft : Buf (Elt F) (T.view.loc (thr d i))) (fm : Buf (Elt F) (M.view.loc (thr d i))) (fi : Buf (Elt F) (iV.view.loc (thr d i))) (j : Fin 4) : sProp 𝕄 :=
  iprop(((allT T).view.loc (thr d i) ↦[(allT T).view.set]{pieceOf q 4 four_pos j} ft)
    ∗ ((rowM M j).view.loc (thr d i) ↦[(rowM M j).view.set]{fullShare} fm) ∗ ((rowM iV j).view.loc (thr d i) ↦[(rowM iV j).view.set]{qo} fi))

/-- The pieces of the four gathers from one table into one scratch. -/
theorem pieces_of (T : Memref sig Kind.scVector .hbm S4194304 .f32) (M : Memref sig Kind.scVector .vmem S4x128 .f32) (q qo : PosShare TreeShare)
    (ft : Buf (Elt F) (T.view.loc (thr d i))) (fm : Buf (Elt F) (M.view.loc (thr d i))) (fi : Buf (Elt F) (iV.view.loc (thr d i))) :
    iprop((T.view.loc (thr d i) ↦[T.view.set]{q} ft) ∗ (M.view.loc (thr d i) ↦[M.view.set]{fullShare} fm) ∗ (iV.view.loc (thr d i) ↦[iV.view.set]{qo} fi))
      ⊢ (bigSep Finset.univ fun j : Fin 4 => piece d i T M q qo ft fm fi j : sProp 𝕄) := by
  iintro ⟨Ht, Hm, Hi⟩
  ihave Ht := (Entails.of_eq (congrArg (fun I => (T.view.loc (thr d i) ↦[I]{q} ft : sProp 𝕄)) (allT_set T).symm)) $$ Ht
  ihave Ht := (Entails.of_eq (pointsTo_piecesOf (allT T).view.set ft four_pos q)) $$ Ht
  ihave Hm := (Entails.of_eq (rows_held d i M fullShare _)) $$ Hm
  ihave Hi := (Entails.of_eq (rows_held d i iV qo _)) $$ Hi
  ihave H := bigSep_sep_in _ _ _ $$ [Hm Hi]; · isplitl [Hm] <;> iassumption
  iapply (bigSep_sep_in _ _ _) $$ [Ht H]
  isplitl [Ht] <;> iassumption

/-- All the gathers' pieces, out of the tables, the scratches and the positions. -/
theorem batch_pieces (q : PosShare TreeShare) (A : Buf (Elt F) (sV.view.loc (thr d i))) (B : Buf (Elt F) (eV.view.loc (thr d i)))
    (fs : Buf (Elt F) (svV.view.loc (thr d i))) (fe : Buf (Elt F) (evV.view.loc (thr d i))) (fi : Buf (Elt F) (iV.view.loc (thr d i))) :
    iprop((sV.view.loc (thr d i) ↦{q} A) ∗ (eV.view.loc (thr d i) ↦{q} B)
          ∗ (svV.view.loc (thr d i) ↦{fullShare} fs) ∗ (evV.view.loc (thr d i) ↦{fullShare} fe)
          ∗ (iV.view.loc (thr d i) ↦{fullShare} fi))
      ⊢ (iprop((bigSep Finset.univ fun j : Fin 4 => piece d i sV svV q (pieceOf fullShare 2 two_pos' 0) A fs fi j)
          ∗ (bigSep Finset.univ fun j : Fin 4 => piece d i eV evV q (pieceOf fullShare 2 two_pos' 1) B fe fi j)) : sProp 𝕄) := by
  iintro ⟨Hst, Het, Hsm, Hem, Hi⟩
  ihave Hst := (Entails.of_eq (congrArg (fun I => (sV.view.loc (thr d i) ↦[I]{q} A : sProp 𝕄)) (View.set_whole main_v1_scv).symm)) $$ Hst
  ihave Het := (Entails.of_eq (congrArg (fun I => (eV.view.loc (thr d i) ↦[I]{q} B : sProp 𝕄)) (View.set_whole main_v2_scv).symm)) $$ Het
  ihave Hsm := (Entails.of_eq (congrArg (fun I => (svV.view.loc (thr d i) ↦[I]{fullShare} fs : sProp 𝕄)) (View.set_whole cc0_scratch4).symm)) $$ Hsm
  ihave Hem := (Entails.of_eq (congrArg (fun I => (evV.view.loc (thr d i) ↦[I]{fullShare} fe : sProp 𝕄)) (View.set_whole cc0_scratch5).symm)) $$ Hem
  ihave Hi := (Entails.of_eq (halves (F := F) (ℓ := iV.view.loc (thr d i)) Finset.univ fi)) $$ Hi
  icases Hi with ⟨Hi0, Hi1⟩
  ihave Hi0 := (Entails.of_eq (congrArg (fun I => (iV.view.loc (thr d i) ↦[I]{pieceOf fullShare 2 two_pos' 0} fi : sProp 𝕄)) (View.set_whole cc0_scratch2).symm)) $$ Hi0
  ihave Hi1 := (Entails.of_eq (congrArg (fun I => (iV.view.loc (thr d i) ↦[I]{pieceOf fullShare 2 two_pos' 1} fi : sProp 𝕄)) (View.set_whole cc0_scratch2).symm)) $$ Hi1
  isplitl [Hst Hsm Hi0]
  · iapply (pieces_of d i sV svV q (pieceOf fullShare 2 two_pos' 0) A fs fi) $$ [Hst Hsm Hi0]
    isplitl [Hst]; · iexact Hst
    isplitl [Hsm] <;> iassumption
  · iapply (pieces_of d i eV evV q (pieceOf fullShare 2 two_pos' 1) B fe fi) $$ [Het Hem Hi1]
    isplitl [Het]; · iexact Het
    isplitl [Hem] <;> iassumption

variable (q : PosShare TreeShare) (A : Buf (Elt F) (sV.view.loc (thr d i))) (B : Buf (Elt F) (eV.view.loc (thr d i)))
variable (fs : Buf (Elt F) (svV.view.loc (thr d i))) (fe : Buf (Elt F) (evV.view.loc (thr d i))) (fi : Buf (Elt F) (iV.view.loc (thr d i)))
variable (W : S16384x256.Idx → F .f32)

/-- The batch with `k` transfers issued and `u` units waited for. -/
abbrev batchAt (k u : ℕ) : sProp 𝕄 :=
  Transfers.Batch countersEmb (thr d i) (.dma cc0_scratch7.sem) (default : HIx 1) 32 (fun t : Fin 1024 => delivers d i q A B fs fe fi W (nth.symm t)) k u

variable {α : Type} {Q : α → sProp (MT nD τ sig (HIx 1) (Elt F) ℕ UU ℕ)}

/-- One of the gathers started: its pieces go into the batch. -/
theorem wp_issue (b : Fin 2) (T : Memref sig Kind.scVector .hbm S4194304 .f32) (M : Memref sig Kind.scVector .vmem S4x128 .f32)
    (ft : Buf (Elt F) (T.view.loc (thr d i))) (fm : Buf (Elt F) (M.view.loc (thr d i))) (hi : ∀ p, iV.view.read (Elt F) fi p = rowPos W (base i + lin p))
    (hD : ∀ j l, delivers d i q A B fs fe fi W ((j, b), l) = landed d i T M q (pieceOf fullShare 2 two_pos' b) ft fm fi W j l)
    (j : Fin 4)
    (hN : ∀ l : Fin 128, ((rowM M j).slice (S128.rowRect gathers_S4194304_S128.axis' l) (S128.stride_rowRect gathers_S4194304_S128.axis' l)).view.dmaCredit = 32)
    {k₀ : ℕ} (hk₀ : k₀ = 256 * j.val + 128 * b.val)
    {k : PUnit → Prog (TpuEff nD τ sig (Elt F) Λ₀ (thr d i).2) α} :
    iprop(piece d i T M q (pieceOf fullShare 2 two_pos' b) ft fm fi j ∗ batchAt d i q A B fs fe fi W k₀ 0)
      ⊢ iprop((batchAt d i q A B fs fe fi W (k₀ + 128) 0 -∗ wp frame (wpE defs₀ 𝒱₀ (thr d i) none) Set.univ (k ⟨⟩) Q)
          -∗ wp frame (wpE defs₀ 𝒱₀ (thr d i) none) Set.univ
              (SparseCore.enqueueIndirectGather rfl (allT T) (rowM M j) gathers_S4194304_S128 (rowM iV j) rfl cc0_scratch7.sem
                (View.wordExact_bits rfl) rfl (Or.inl rfl) >>= k) Q) := by
  have hj := j.isLt
  have hb := b.isLt
  have hDD : ∀ (l : Fin 128) (h : k₀ + l.val < 1024), delivers d i q A B fs fe fi W (nth.symm ⟨k₀ + l.val, h⟩)
      = rowLanded (thr d i) (allT T) (rowM M j) gathers_S4194304_S128 (rowM iV j) rfl (by decide) (pieceOf q 4 four_pos j) (pieceOf fullShare 2 two_pos' b) ft fm fi
        (rows ((rowM iV j).view.read (Elt F) fi) rfl (row_bound d i W fi hi j)) l := by
    intro l h
    have e : nth.symm ⟨k₀ + l.val, h⟩ = ((j, b), l) := (Equiv.symm_apply_eq _).mpr (Fin.ext ((congrArg (· + l.val) hk₀).trans (nth_val j b l).symm))
    rw [e, hD]
    exact congrArg (fun r => rowLanded (thr d i) (allT T) (rowM M j) gathers_S4194304_S128 (rowM iV j) rfl (by decide) (pieceOf q 4 four_pos j) (pieceOf fullShare 2 two_pos' b) ft fm fi r l)
      (named_rows d i W fi hi j (row_bound d i W fi hi j)).symm
  iintro ⟨⟨Ht, Hm, Hi⟩, HB⟩ Hk
  iapply (wp_gatherInBatch (n := 1024) countersEmb 𝒱₀ (thr d i) none (src := allT T) (dst := rowM M j) (offs := rowM iV j)
    (hg := gathers_S4194304_S128) (q := pieceOf q 4 four_pos j) (qo := pieceOf fullShare 2 two_pos' b) (fs := ft) (fd := fm) (fo := fi)
    (D := fun t : Fin 1024 => delivers d i q A B fs fe fi W (nth.symm t)) (default : HIx 1) 32 k₀ 0 128 rfl hN (by decide)
    (row_bound d i W fi hi j) (by omega) (Nat.zero_le _) hDD) $$ [Ht Hm Hi HB] [Hk]
  · isplitl [Ht]; · iexact Ht
    isplitl [Hm]; · iexact Hm
    isplitl [Hi]; · iexact Hi
    iexact HB
  iexact Hk

theorem wp_issueS (hi : ∀ p, iV.view.read (Elt F) fi p = rowPos W (base i + lin p)) (j : Fin 4) {k₀ : ℕ} (hk₀ : k₀ = 256 * j.val)
    {k : PUnit → Prog (TpuEff nD τ sig (Elt F) Λ₀ (thr d i).2) α} :
    iprop(piece d i sV svV q (pieceOf fullShare 2 two_pos' 0) A fs fi j ∗ batchAt d i q A B fs fe fi W k₀ 0)
      ⊢ iprop((batchAt d i q A B fs fe fi W (k₀ + 128) 0 -∗ wp frame (wpE defs₀ 𝒱₀ (thr d i) none) Set.univ (k ⟨⟩) Q)
          -∗ wp frame (wpE defs₀ 𝒱₀ (thr d i) none) Set.univ
              (SparseCore.enqueueIndirectGather rfl (allT sV) (rowM svV j) gathers_S4194304_S128 (rowM iV j) rfl cc0_scratch7.sem
                (View.wordExact_bits rfl) rfl (Or.inl rfl) >>= k) Q) :=
  wp_issue d i q A B fs fe fi W 0 sV svV A fs hi (fun _ _ => rfl) j (fun _ => rfl) (by simpa using hk₀)

theorem wp_issueE (hi : ∀ p, iV.view.read (Elt F) fi p = rowPos W (base i + lin p)) (j : Fin 4) {k₀ : ℕ} (hk₀ : k₀ = 256 * j.val + 128)
    {k : PUnit → Prog (TpuEff nD τ sig (Elt F) Λ₀ (thr d i).2) α} :
    iprop(piece d i eV evV q (pieceOf fullShare 2 two_pos' 1) B fe fi j ∗ batchAt d i q A B fs fe fi W k₀ 0)
      ⊢ iprop((batchAt d i q A B fs fe fi W (k₀ + 128) 0 -∗ wp frame (wpE defs₀ 𝒱₀ (thr d i) none) Set.univ (k ⟨⟩) Q)
          -∗ wp frame (wpE defs₀ 𝒱₀ (thr d i) none) Set.univ
              (SparseCore.enqueueIndirectGather rfl (allT eV) (rowM evV j) gathers_S4194304_S128 (rowM iV j) rfl cc0_scratch7.sem
                (View.wordExact_bits rfl) rfl (Or.inl rfl) >>= k) Q) :=
  wp_issue d i q A B fs fe fi W 1 eV evV B fe hi (fun _ _ => rfl) j (fun _ => rfl) (by simpa using hk₀)

/-- One of the eight waits. -/
theorem wp_await (O : CellTallies nD τ sig (HIx 1)) (Wt : Waits sig (HIx 1)) {u : ℕ} (hu : u + 4096 ≤ 32 * 1024)
    {src : Memref sig Kind.scVector .hbm S4194304 .f32} {dst : Memref sig Kind.scVector .vmem S128 .f32} {h1 : src.view.WordExact} {h2 : dst.view.WordExact}
    (hJ : dst.view.dmaCredit = 128 * 32)
    {k : PUnit → Prog (TpuEff nD τ sig (Elt F) Λ₀ (thr d i).2) α} :
    iprop(batchAt d i q A B fs fe fi W 1024 u ∗ Transfers.MayWaits (thr d i) none O ∗ ∃ W', ⌜∀ p ∈ W', p ∈ Wt ∨ p.2 = none⌝ ∗ owes (thr d i) O W')
      ⊢ iprop((iprop(batchAt d i q A B fs fe fi W 1024 (u + 4096) ∗ Transfers.MayWaits (thr d i) none O ∗ ∃ W', ⌜∀ p ∈ W', p ∈ Wt ∨ p.2 = none⌝ ∗ owes (thr d i) O W')
            -∗ wp frame (wpE defs₀ 𝒱₀ (thr d i) none) Set.univ (k ⟨⟩) Q)
          -∗ wp frame (wpE defs₀ 𝒱₀ (thr d i) none) Set.univ (SparseCore.waitIndirectGather cc0_scratch7.sem src dst h1 h2 >>= k) Q) := by
  iintro ⟨HB, #Hmw, %W', %hW', HO⟩ Hk
  iapply (Transfers.wp_waitBatchMulO countersEmb 𝒱₀ (thr d i) none (default : HIx 1) 128 hJ (by omega)) $$ [HB HO]
  · isplitl [HB]; · iexact HB
    isplitl [HO]; · iexact HO
    iapply (Transfers.MayWaits.elim (SemLoc.dma cc0_scratch7.sem)) $$ Hmw
  iintro ⟨HB, HO⟩
  iapply Hk
  isplitl [HB]; · iexact HB
  isplitr; · iexact Hmw
  iexists _
  isplitr
  swap; · iexact HO
  ipureintro
  intro p hp
  rcases Finset.mem_insert.mp hp with hp | hp
  · exact .inr (hp ▸ rfl)
  · exact hW' p hp

end

end Cert.Proof.Tile
-- ==== Proof.OutTrips.lean ====
/-
  One trip of the tile's last loop: sixteen results are put together from the counts and the fetched table entries.
-/
module

public import proofs.«01_k».proof.Proof.Trips

@[expose] public section

noncomputable section

namespace Cert.Proof.Tile

open Cert.KernelIdeal Cert.KernelIdeal.Gen Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

/-- Sixteen more results done. -/
theorem storedOut_done {t : ℕ} {v : S16.Idx → F .f32} {f : S512.Idx → F .f32} {R : ℕ → F .f32}
    (hf : ∀ p : S512.Idx, (p 0).val < 16 * t → f p = R (p 0).val) (hv : ∀ x : S16.Idx, v x = R (16 * t + (x 0).val)) :
    ∀ p : S512.Idx, (p 0).val < 16 * (t + 1) → storedOut t v f p = R (p 0).val := by
  intro p hp
  unfold storedOut
  split
  · rename_i h
    rw [hv]
    congr 1
    show 16 * t + (p 0).val % 16 = (p 0).val
    omega
  · exact hf p (by omega)

/-- What the last loop holds after `k` trips: the counts, the entries fetched from the two tables, and the first `16 k`
    results. -/
def outInv (W : S16384x256.Idx → F .f32) (A B : S4194304.Idx → F .f32) (fn : Buf (Elt F) (nV.view.loc (thr d i)))
    (fs : Buf (Elt F) (svV.view.loc (thr d i))) (fe : Buf (Elt F) (evV.view.loc (thr d i))) (k : ℕ) (_ : BitVec 32) : sProp 𝕄 :=
  iprop((nV.view.loc (thr d i) ↦[Finset.univ]{fullShare} fn)
    ∗ (svV.view.loc (thr d i) ↦[Finset.univ]{fullShare} fs)
    ∗ (evV.view.loc (thr d i) ↦[Finset.univ]{fullShare} fe)
    ∗ (∃ fo, ⌜∀ p : S512.Idx, (p 0).val < 16 * k → outV.view.read (Elt F) fo p = rowOut W A B (base i + (p 0).val)⌝
        ∗ (outV.view.loc (thr d i) ↦[Finset.univ]{fullShare} fo)))

set_option maxHeartbeats 4000000 in
/-- One trip over sixteen results. -/
theorem out_trip (W : S16384x256.Idx → F .f32) (A B : S4194304.Idx → F .f32) (fn : Buf (Elt F) (nV.view.loc (thr d i)))
    (fs : Buf (Elt F) (svV.view.loc (thr d i))) (fe : Buf (Elt F) (evV.view.loc (thr d i)))
    (hn : ∀ p, nV.view.read (Elt F) fn p = rowCnt W (base i + lin p))
    (hs : ∀ p, svV.view.read (Elt F) fs p = tabAt A (rowPos W (base i + lin p)).toNat)
    (he : ∀ p, evV.view.read (Elt F) fe p = tabAt B (rowPos W (base i + lin p)).toNat)
    (t : Fin k0_t3_loop.trips) (z : BitVec 32) :
    outInv d i W A B fn fs fe t.val z
      ⊢ wp (M := 𝕄) frame (wpE defs₀ 𝒱₀ (thr d i) none) Set.univ (outBody (F := F) i t z) (outInv d i W A B fn fs fe (t.val + 1)) := by
  have ht : t.val < 32 := lt_of_lt_of_le t.isLt k0_t3_abs.2.1
  unfold outInv
  iintro ⟨Hn, Hs, He, %fo, %ho, Ho⟩
  simp only [outBody, k0_t3_body, k0_part4_eq_skeleton]
  unfold k0_part4_skel
  simp only [Prog.lift, Prog.bind_op, Prog.bind_ret, Prog.pure_eq_ret]
  iapply (wp_loadRow d i (m := svV)) $$ Hs; iintro Hs
  iapply (wp_loadRow d i (m := evV)) $$ He; iintro He
  iapply (wp_loadRow d i (m := nV)) $$ Hn; iintro Hn
  iapply (wp_load 𝒱₀ (thr d i) none Set.univ (m := outV) (S := Finset.univ) (Finset.subset_univ _)) $$ Ho; iintro Ho
  iapply (wp_store 𝒱₀ (thr d i) none Set.univ (m := outV) (r := Rect.unit (s := S512) (k0_off7 t) S16.size (k0_off7_inb t)) (Mk := Finset.univ) (S := Finset.univ)
    (Finset.subset_univ _)) $$ Ho
  iintro Ho
  rw [wp_ret]
  imodintro
  isplitl [Hn]; · iexact Hn
  isplitl [Hs]; · iexact Hs
  isplitl [He]; · iexact He
  iexists _; isplitr
  rotate_left
  · iexact Ho
  · ipureintro
    intro p hp
    refine (congrFun (read_storedOut (m := outV) t.val ht (k0_off7_eq t) fo _) p).trans ?_
    rw [out_lane, row_lane t.val ht (off6_eq t), row_lane t.val ht (off6_eq t), row_lane t.val ht (off6_eq t)]
    refine storedOut_done (R := fun n => rowOut W A B (base i + n)) ho (fun x => ?_) p hp
    beta_reduce
    rw [hn, hs, he, lin_slot]
    rfl

end Cert.Proof.Tile
-- ==== Proof.TileBody.lean ====
/-
  A whole tile's run.
-/
module

public import proofs.«01_k».proof.Proof.Streams
public import proofs.«01_k».proof.Proof.OutTrips

@[expose] public section

noncomputable section

namespace Cert.Proof.Tile

open Cert.KernelIdeal Cert.KernelIdeal.Gen Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type}

local notation "𝕄" => MT nD τ sig (HIx 1) (Elt F) ℕ UU ℕ

variable [FloatOps F]

section
variable (d : Dev nD) (i : grid0.Coords)

/-- What the copy of the head columns lands. -/
theorem read_headSrc (W : S16384x256.Idx → F .f32) :
    (wV.slice (Rect.unit (s := S16384x256) (k0_off1 i) S512x16.size (k0_off1_inb i)) (fun _ => rfl)).view.read (Elt F) W = headBlk W i := by
  have hb := base_le i
  funext p
  have h0 : (p 0).val < 512 := (p 0).isLt
  have h1 : (p 1).val < 16 := (p 1).isLt
  rw [View.read_apply]
  show W _ = W _
  congr 1
  refine funext (Fin.forall_fin_two.mpr ⟨Fin.ext ?_, Fin.ext ?_⟩)
  · refine (congrArg (· + 1 * (p 0).val) (congrFun (k0_off1_eq i) 0)).trans ?_
    show base i + 1 * (p 0).val = (base i + (p 0).val) % 16384
    omega
  · refine (congrArg (· + 1 * (p 1).val) (congrFun (k0_off1_eq i) 1)).trans ?_
    show 0 + 1 * (p 1).val = (p 1).val % 256
    omega

/-- The tile's 512 results, as a part of the whole result array. -/
abbrev outRow : Memref sig Kind.scVector .hbm S512 .f32 :=
  oV.slice (Rect.unit (s := S16384) (k0_off8 i) S512.size (k0_off8_inb i)) (fun _ => rfl)

/-- The whole result array. -/
def outArr (W : S16384x256.Idx → F .f32) (A B : S4194304.Idx → F .f32) : S16384.Idx → F .f32 := fun p => rowOut W A B (p 0).val

/-- The copy of the results leaves the tile's part of the result array as stated. -/
theorem outRow_written (W : S16384x256.Idx → F .f32) (A B : S4194304.Idx → F .f32) (fo : Buf (Elt F) ((outRow i).view.loc (thr d i)))
    (v : S512.Idx → F .f32) (hv : ∀ p, v p = rowOut W A B (base i + (p 0).val)) :
    ∀ y ∈ (outRow i).view.set, (outRow i).view.write (Elt F) fo v Finset.univ y = outArr W A B y := by
  intro y hy
  obtain ⟨x, -, rfl⟩ := Finset.mem_map.mp hy
  refine (View.write_emb_of_mem _ _ (Finset.mem_univ x)).trans ?_
  show v x = outArr W A B _
  rw [hv]
  unfold outArr
  congr 1
  refine Eq.symm ((congrArg (· + 1 * (x 0).val) (congrFun (k0_off8_eq i) 0)).trans ?_)
  show base i + 1 * (x 0).val = base i + (x 0).val
  omega

abbrev cell (s : DmaSem sig) : GSem nD τ sig := (thr d i, .dma s)

/-- The tile's own semaphores: the four it uses, and the others. -/
theorem ownSems_tile :
    (ownSems0 (thr d i) : sProp 𝕄)
      = iprop(semVal (cell d i cc0_scratch7.sem) 0 ∗ semVal (cell d i cc0_scoped0.sem) 0 ∗ semVal (cell d i cc0_scoped1.sem) 0 ∗ semVal (cell d i cc0_scoped2.sem) 0
          ∗ bigSep (((((ownCells (thr d i)).erase (cell d i cc0_scratch7.sem)).erase (cell d i cc0_scoped0.sem)).erase (cell d i cc0_scoped1.sem)).erase (cell d i cc0_scoped2.sem)) fun g => semVal g 0) := by
  have hm : ∀ s : DmaSem sig, (SemLoc.dma s : SemLoc sig).isScoped .scVector = true → cell d i s ∈ ownCells (thr d i) :=
    fun s h => (mem_ownCells (g := cell d i s)).mpr ⟨rfl, h⟩
  have hne : ∀ s s' : DmaSem sig, s ≠ s' → cell d i s ≠ cell d i s' := fun s s' h e => h (by simpa [cell] using e)
  unfold SparseCore.Cfg.ownSems0
  rw [SparseCore.bigSep_erase' (hm cc0_scratch7.sem (by decide)),
    SparseCore.bigSep_erase' (Finset.mem_erase.mpr ⟨hne cc0_scoped0.sem cc0_scratch7.sem (by decide), hm _ (by decide)⟩),
    SparseCore.bigSep_erase' (Finset.mem_erase.mpr ⟨hne cc0_scoped1.sem cc0_scoped0.sem (by decide),
      Finset.mem_erase.mpr ⟨hne cc0_scoped1.sem cc0_scratch7.sem (by decide), hm _ (by decide)⟩⟩),
    SparseCore.bigSep_erase' (Finset.mem_erase.mpr ⟨hne cc0_scoped2.sem cc0_scoped1.sem (by decide),
      Finset.mem_erase.mpr ⟨hne cc0_scoped2.sem cc0_scoped0.sem (by decide),
        Finset.mem_erase.mpr ⟨hne cc0_scoped2.sem cc0_scratch7.sem (by decide), hm _ (by decide)⟩⟩⟩)]

/-- One of the tile's own buffers, apart from some others. -/
abbrev bufD (b : Ref sig .scVector) : DevRef τ sig := (Proc.scVector (cV i) (jV i)).devRef b

/-- What is left of the tile's own buffers without its seven scratches. -/
abbrev otherRefs : Finset (DevRef τ sig) :=
  (((((((ownRefs (τ := τ) (.scVector (cV i) (jV i))).erase (bufD i cc0_scratch0)).erase (bufD i cc0_scratch1)).erase (bufD i cc0_scratch2)).erase
    (bufD i cc0_scratch3)).erase (bufD i cc0_scratch4)).erase (bufD i cc0_scratch5)).erase (bufD i cc0_scratch6)

/-- The tile's own buffers: its seven scratches, and the others. -/
theorem ownBufs_tile :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f)
          ∗ (∃ f, (thr d i).loc cc0_scratch3 ↦{fullShare} f) ∗ (∃ f, (thr d i).loc cc0_scratch4 ↦{fullShare} f) ∗ (∃ f, (thr d i).loc cc0_scratch5 ↦{fullShare} f)
          ∗ (∃ f, (thr d i).loc cc0_scratch6 ↦{fullShare} f)
          ∗ bigSep (otherRefs i) fun b => iprop(∃ f, ((d, b) : Loc nD τ sig) ↦{fullShare} f)) := by
  have hm : ∀ b : Ref sig .scVector, (bufD i b).owner = Owner.proc (Proc.scVector (cV i) (jV i)) → bufD i b ∈ ownRefs (τ := τ) (.scVector (cV i) (jV i)) :=
    fun b h => SparseCore.Cfg.mem_ownRefs_of_owner (p := Proc.scVector (cV i) (jV i)) (b := bufD i b) h
  have hne : ∀ b b' : Ref sig .scVector, b ≠ b' → bufD i b ≠ bufD i b' := fun b b' h e => absurd (Proc.devRef_injective _ e) h
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm _ rfl⟩),
    SparseCore.bigSep_erase' (Finset.mem_erase.mpr ⟨hne cc0_scratch2 cc0_scratch1 (by decide),
      Finset.mem_erase.mpr ⟨hne cc0_scratch2 cc0_scratch0 (by decide), hm _ rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm _ rfl⟩⟩⟩),
    SparseCore.bigSep_erase' (Finset.mem_erase.mpr ⟨hne cc0_scratch4 cc0_scratch3 (by decide), Finset.mem_erase.mpr ⟨hne cc0_scratch4 cc0_scratch2 (by decide),
      Finset.mem_erase.mpr ⟨hne cc0_scratch4 cc0_scratch1 (by decide), Finset.mem_erase.mpr ⟨hne cc0_scratch4 cc0_scratch0 (by decide), hm _ rfl⟩⟩⟩⟩),
    SparseCore.bigSep_erase' (Finset.mem_erase.mpr ⟨hne cc0_scratch5 cc0_scratch4 (by decide), Finset.mem_erase.mpr ⟨hne cc0_scratch5 cc0_scratch3 (by decide),
      Finset.mem_erase.mpr ⟨hne cc0_scratch5 cc0_scratch2 (by decide), Finset.mem_erase.mpr ⟨hne cc0_scratch5 cc0_scratch1 (by decide),
        Finset.mem_erase.mpr ⟨hne cc0_scratch5 cc0_scratch0 (by decide), hm _ rfl⟩⟩⟩⟩⟩),
    SparseCore.bigSep_erase' (Finset.mem_erase.mpr ⟨hne cc0_scratch6 cc0_scratch5 (by decide), Finset.mem_erase.mpr ⟨hne cc0_scratch6 cc0_scratch4 (by decide),
      Finset.mem_erase.mpr ⟨hne cc0_scratch6 cc0_scratch3 (by decide), Finset.mem_erase.mpr ⟨hne cc0_scratch6 cc0_scratch2 (by decide),
        Finset.mem_erase.mpr ⟨hne cc0_scratch6 cc0_scratch1 (by decide), Finset.mem_erase.mpr ⟨hne cc0_scratch6 cc0_scratch0 (by decide), hm _ rfl⟩⟩⟩⟩⟩⟩)]

/-! ## The program, piece by piece -/

abbrev TileProg (F : FTy → Type) (i : grid0.Coords) (α : Type) : Type 1 := Prog (TpuEff nD τ sig (Elt F) Λ₀ (.scVector (cV i) (jV i))) α

/-- Start the gather of the starts, or of the ends, of row `j` of the positions. -/
abbrev startS (j : Fin 4) : TileProg F i PUnit :=
  SparseCore.enqueueIndirectGather rfl (allT sV) (rowM svV j) gathers_S4194304_S128 (rowM iV j) rfl cc0_scratch7.sem (View.wordExact_bits rfl) rfl (Or.inl rfl)
abbrev startE (j : Fin 4) : TileProg F i PUnit :=
  SparseCore.enqueueIndirectGather rfl (allT eV) (rowM evV j) gathers_S4194304_S128 (rowM iV j) rfl cc0_scratch7.sem (View.wordExact_bits rfl) rfl (Or.inl rfl)

/-- Wait for as much as one of those gathers brings. -/
abbrev waitS (j : Fin 4) : TileProg F i PUnit :=
  SparseCore.waitIndirectGather cc0_scratch7.sem (allT sV) (rowM svV j) (View.wordExact_bits rfl) ((View.wordExact_bits rfl).reshape _ _)
abbrev waitE (j : Fin 4) : TileProg F i PUnit :=
  SparseCore.waitIndirectGather cc0_scratch7.sem (allT eV) (rowM evV j) (View.wordExact_bits rfl) ((View.wordExact_bits rfl).reshape _ _)

/-- The copy of the head columns in, and of the results out. -/
abbrev headCopy : TileProg F i PUnit := do
  Prog.lift (.enqueueDma (wV.slice (Rect.unit (s := S16384x256) (k0_off1 i) S512x16.size (k0_off1_inb i)) (fun _ => rfl)) (.here aV)
    (.dma cc0_scoped0.sem) (View.wordExact_bits rfl) (Memref.isWhole_whole _).wordExact ⟨Or.inl rfl, trivial⟩)
  Prog.lift (.waitDma2 cc0_scoped0.sem (wV.slice (Rect.unit (s := S16384x256) (k0_off1 i) S512x16.size (k0_off1_inb i)) (fun _ => rfl)) aV
    (View.wordExact_bits rfl) (Memref.isWhole_whole _).wordExact)
abbrev outCopy : TileProg F i PUnit := do
  Prog.lift (.enqueueDma outV (.here (outRow i)) (.dma cc0_scoped2.sem) (Memref.isWhole_whole _).wordExact (View.wordExact_bits rfl) ⟨Or.inl rfl, trivial⟩)
  Prog.lift (.waitDma2 cc0_scoped2.sem outV (outRow i) (Memref.isWhole_whole _).wordExact (View.wordExact_bits rfl))

theorem part5_eq : part5 (F := F) i = (do
    headCopy (F := F) i
    let _ ← Scf.Loop.for k0_t1_loop k0_t1_ok 0#32 (rowsBody (F := F) i)
    startS (F := F) i 0
    startE (F := F) i 0
    pure ⟨⟩) := by
  rw [part5, k0_part5_eq_skeleton]; rfl

theorem part6_eq : part6 (F := F) i = (do
    startS (F := F) i 1
    startE (F := F) i 1
    startS (F := F) i 2
    startE (F := F) i 2
    startS (F := F) i 3
    startE (F := F) i 3
    pure ⟨⟩) := by
  rw [part6, k0_part6_eq_skeleton]; rfl

theorem part7_eq : part7 (F := F) i = (do
    waitS (F := F) i 0
    waitE (F := F) i 0
    waitS (F := F) i 1
    waitE (F := F) i 1
    waitS (F := F) i 2
    pure ⟨⟩) := by
  rw [part7, k0_part7_eq_skeleton]; rfl

theorem body_eq : body (F := F) i = (do
    part5 (F := F) i
    part6 (F := F) i
    part7 (F := F) i
    waitE (F := F) i 2
    waitS (F := F) i 3
    waitE (F := F) i 3
    let _ ← Scf.Loop.for k0_t3_loop k0_t3_ok 0#32 (outBody (F := F) i)
    outCopy (F := F) i
    pure ⟨⟩) := by
  rw [body, cc0__sc_body_eq_skeleton]; rfl

theorem trips_t1 : k0_t1_loop.trips = 32 := by decide +kernel
theorem trips_t3 : k0_t3_loop.trips = 32 := by decide +kernel

theorem lin_lt (p : S4x128.Idx) : lin p < 16 * 32 := by
  have h0 : (p 0).val < 4 := (p 0).isLt
  have h1 : (p 1).val < 128 := (p 1).isLt
  unfold lin
  omega

/-- A family of four, written out. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, BI.bigSep_insert (by decide), BI.bigSep_insert (by decide),
    BI.bigSep_insert (by decide), BI.bigSep_singleton]
  rfl

set_option maxHeartbeats 8000000 in
/-- One tile's run: from its shares of the weights and of the two tables and its part of the result array, to the same
    with its 512 results in place. -/
theorem tile_body (hF : (K (F := F)).Facts) (W : S16384x256.Idx → F .f32) (A B : S4194304.Idx → F .f32) (q : PosShare TreeShare)
    (fo : Buf (Elt F) ((outRow i).view.loc (thr d i))) (O : CellTallies nD τ sig (HIx 1)) (Wt : Waits sig (HIx 1)) (hO : ∀ g, O g none = 0) :
    iprop(levAts (K (F := F)).L (K (F := F)).lev ∗ emp
        ∗ ((wV.view.loc (thr d i) ↦{q} W) ∗ (sV.view.loc (thr d i) ↦{q} A) ∗ (eV.view.loc (thr d i) ↦{q} B)
          ∗ ((outRow i).view.loc (thr d i) ↦[(outRow i).view.set]{fullShare} fo))
        ∗ scopedBufs (thr d i) ∗ scopedSems0 (thr d i) ∗ owes (thr d i) O Wt)
      ⊢ wp (M := 𝕄) frame (wpE (defs₀ (F := F)) 𝒱₀ (thr d i) none) Set.univ (body (F := F) i)
          fun _ => iprop(((wV.view.loc (thr d i) ↦{q} W) ∗ (sV.view.loc (thr d i) ↦{q} A) ∗ (eV.view.loc (thr d i) ↦{q} B)
              ∗ ((outRow i).view.loc (thr d i) ↦[(outRow i).view.set]{fullShare} (outArr W A B)))
            ∗ scopedBufs (thr d i) ∗ scopedSems0 (thr d i)
            ∗ ∃ W', ⌜∀ p ∈ W', p ∈ Wt ∨ p.2 = none⌝ ∗ owes (thr d i) O W') := by
  rw [body_eq, part5_eq, part6_eq, part7_eq]
  rw [(K (F := F)).scopedBufs_V hF d (cV i) (jV i), SparseCore.Cfg.scopedSems0_V (Val := Elt F) d (cV i) (jV i), ownSems_tile, ownBufs_tile]
  iintro ⟨#Hlv, -, ⟨Hw, Hs, He, Ho⟩, ⟨⟨%fa, Ha⟩, ⟨%fb, Hb⟩, ⟨%fi, Hi⟩, ⟨%fn, Hn⟩, ⟨%fs, Hsv⟩, ⟨%fe, Hev⟩, ⟨%fu, Hu⟩, Hbufs⟩, ⟨Hsem, HsemA, HsemB, HsemC, Hsems⟩, HO⟩
  ihave Hmw := (show levAts (K (F := F)).L (K (F := F)).lev ⊢ Transfers.MayWaits (thr d i) (default : HIx 1) O from
    (K (F := F)).mayWaits_none (thr := thr d i) hO) $$ Hlv
  ihave Hw' := (show (wV.view.loc (thr d i) ↦{q} W : sProp 𝕄) ⊢ (wV.view.loc (thr d i) ↦{q} W) from .rfl) $$ Hw
  ihave Ha' := (show ((thr d i).loc cc0_scratch0 ↦{fullShare} fa : sProp 𝕄) ⊢ (aV.view.loc (thr d i) ↦{fullShare} fa) from .rfl) $$ Ha
  sl_exec
  have ha : View.write (Elt F) aV.view fa (tile_body.sl.dma0 i W) Finset.univ = headBlk W i := by
    unfold tile_body.sl.dma0
    exact (View.write_whole_univ _ _ _).trans (read_headSrc i W)
  rw [ha]
  rw [wp_bind]
  sl_for (rowsInv d i W q O Wt) $$ [Hmw Hw' Ha' Hb Hn Hi HsemB HO]
  case region =>
    intro k a
    exact rows_trip d i W q O Wt k a
  · unfold rowsInv
    isplitl [Hmw]; · iexact Hmw
    isplitl [Hw']; · iexact Hw'
    isplitl [Ha']; · iexact Ha'
    isplitl [Hb]; · iexists fb; iexact Hb
    isplitl [Hn]
    · iexists fn; isplitr
      · ipureintro; intro p hp; exact absurd hp (by omega)
      · iexact Hn
    isplitl [Hi]
    · iexists fi; isplitr
      · ipureintro; intro p hp; exact absurd hp (by omega)
      · iexact Hi
    isplitl [HsemB]; · iexact HsemB
    iexists _; isplitr
    swap; · iexact HO
    ipureintro; intro p hp
    rcases Finset.mem_insert.mp hp with hp | hp
    · exact .inr (hp ▸ rfl)
    · exact .inl hp
  iintro %a HI
  unfold rowsInv
  rw [show Scf.trips k0_t1_loop.lb k0_t1_loop.ub k0_t1_loop.st = 32 from trips_t1]
  icases HI with ⟨Hmw, Hw, Ha, ⟨%fb', Hb⟩, ⟨%fn', %hn, Hn⟩, ⟨%fi', %hi, Hi⟩, HsemB, HO⟩
  replace hn : ∀ p, nV.view.read (Elt F) fn' p = rowCnt W (base i + lin p) := fun p => hn p (lin_lt p)
  replace hi : ∀ p, iV.view.read (Elt F) fi' p = rowPos W (base i + lin p) := fun p => hi p (lin_lt p)
  unfold tile_body.sl.prog.cont_1
  ihave Hg := (batch_pieces d i q A B fs fe fi') $$ [Hs He Hsv Hev Hi]
  · isplitl [Hs]; · iexact Hs
    isplitl [He]; · iexact He
    isplitl [Hsv]; · iexact Hsv
    isplitl [Hev]; · iexact Hev
    iexact Hi
  icases Hg with ⟨HgS, HgE⟩
  ihave HgS := (Entails.of_eq (bigSep_four (fun j => piece d i sV svV q (pieceOf fullShare 2 two_pos' 0) A fs fi' j))) $$ HgS
  ihave HgE := (Entails.of_eq (bigSep_four (fun j => piece d i eV evV q (pieceOf fullShare 2 two_pos' 1) B fe fi' j))) $$ HgE
  icases HgS with ⟨HS0, HS1, HS2, HS3⟩
  icases HgE with ⟨HE0, HE1, HE2, HE3⟩
  iapply (fupd_wp _ _ _ _)
  imod (Transfers.batch_alloc' countersEmb (thr d i) (default : HIx 1) 32 (fun t : Fin 1024 => delivers d i q A B fs fe fi' W (nth.symm t))) $$ Hsem with HB
  imodintro
  iapply (wp_issueS d i q A B fs fe fi' W hi 0 (k₀ := 0) (by decide)) $$ [HS0 HB]
  · isplitl [HS0] <;> iassumption
  iintro HB
  iapply (wp_issueE d i q A B fs fe fi' W hi 0 (k₀ := 128) (by decide)) $$ [HE0 HB]
  · isplitl [HE0] <;> iassumption
  iintro HB
  rw [Prog.pure_eq_ret, wp_ret]
  imodintro
  rw [wp_bind]
  iapply (wp_issueS d i q A B fs fe fi' W hi 1 (k₀ := 256) (by decide)) $$ [HS1 HB]
  · isplitl [HS1] <;> iassumption
  iintro HB
  iapply (wp_issueE d i q A B fs fe fi' W hi 1 (k₀ := 384) (by decide)) $$ [HE1 HB]
  · isplitl [HE1] <;> iassumption
  iintro HB
  iapply (wp_issueS d i q A B fs fe fi' W hi 2 (k₀ := 512) (by decide)) $$ [HS2 HB]
  · isplitl [HS2] <;> iassumption
  iintro HB
  iapply (wp_issueE d i q A B fs fe fi' W hi 2 (k₀ := 640) (by decide)) $$ [HE2 HB]
  · isplitl [HE2] <;> iassumption
  iintro HB
  iapply (wp_issueS d i q A B fs fe fi' W hi 3 (k₀ := 768) (by decide)) $$ [HS3 HB]
  · isplitl [HS3] <;> iassumption
  iintro HB
  iapply (wp_issueE d i q A B fs fe fi' W hi 3 (k₀ := 896) (by decide)) $$ [HE3 HB]
  · isplitl [HE3] <;> iassumption
  iintro HB
  rw [wp_ret]
  imodintro
  rw [wp_bind]
  iapply (wp_await d i q A B fs fe fi' W O Wt (u := 0) (by decide) rfl) $$ [HB Hmw HO]
  · isplitl [HB]; · iexact HB
    isplitl [Hmw] <;> iassumption
  iintro ⟨HB, Hmw, HO⟩
  iapply (wp_await d i q A B fs fe fi' W O Wt (u := 4096) (by decide) rfl) $$ [HB Hmw HO]
  · isplitl [HB]; · iexact HB
    isplitl [Hmw] <;> iassumption
  iintro ⟨HB, Hmw, HO⟩
  iapply (wp_await d i q A B fs fe fi' W O Wt (u := 8192) (by decide) rfl) $$ [HB Hmw HO]
  · isplitl [HB]; · iexact HB
    isplitl [Hmw] <;> iassumption
  iintro ⟨HB, Hmw, HO⟩
  iapply (wp_await d i q A B fs fe fi' W O Wt (u := 12288) (by decide) rfl) $$ [HB Hmw HO]
  · isplitl [HB]; · iexact HB
    isplitl [Hmw] <;> iassumption
  iintro ⟨HB, Hmw, HO⟩
  iapply (wp_await d i q A B fs fe fi' W O Wt (u := 16384) (by decide) rfl) $$ [HB Hmw HO]
  · isplitl [HB]; · iexact HB
    isplitl [Hmw] <;> iassumption
  iintro ⟨HB, Hmw, HO⟩
  rw [wp_ret]
  imodintro
  iapply (wp_await d i q A B fs fe fi' W O Wt (u := 20480) (by decide) rfl) $$ [HB Hmw HO]
  · isplitl [HB]; · iexact HB
    isplitl [Hmw] <;> iassumption
  iintro ⟨HB, Hmw, HO⟩
  iapply (wp_await d i q A B fs fe fi' W O Wt (u := 24576) (by decide) rfl) $$ [HB Hmw HO]
  · isplitl [HB]; · iexact HB
    isplitl [Hmw] <;> iassumption
  iintro ⟨HB, Hmw, HO⟩
  iapply (wp_await d i q A B fs fe fi' W O Wt (u := 28672) (by decide) rfl) $$ [HB Hmw HO]
  · isplitl [HB]; · iexact HB
    isplitl [Hmw] <;> iassumption
  iintro ⟨HB, Hmw, HO⟩
  iapply (fupd_wp _ _ _ _)
  imod (Transfers.batch_collect' countersEmb (thr d i) (by decide : 0 < 32)) $$ HB with ⟨HD, Hsem⟩
  imodintro
  ihave HD := (batch_join d i q A B fs fe fi' W) $$ HD
  icases HD with ⟨Hs, He, Hsv, Hev, Hi⟩
  have hsv : ∀ p, svV.view.read (Elt F) (taken d i sV svV A fs W) p = tabAt A (rowPos W (base i + lin p)).toNat := fun p =>
    congrFun (View.read_write_univ (v := svV.view) (Val := Elt F) fs _) p
  have hev : ∀ p, evV.view.read (Elt F) (taken d i eV evV B fe W) p = tabAt B (rowPos W (base i + lin p)).toNat := fun p =>
    congrFun (View.read_write_univ (v := evV.view) (Val := Elt F) fe _) p
  icases HO with ⟨%Wo, %hWo, HO⟩
  sl_for (outInv d i W A B fn' (taken d i sV svV A fs W) (taken d i eV evV B fe W)) $$ [Hn Hsv Hev Hu]
  case region =>
    intro k a
    exact out_trip d i W A B fn' _ _ hn hsv hev k a
  · unfold outInv
    isplitl [Hn]; · iexact Hn
    isplitl [Hsv]; · iexact Hsv
    isplitl [Hev]; · iexact Hev
    iexists fu; isplitr
    · ipureintro; intro p hp; exact absurd hp (by omega)
    · iexact Hu
  iintro %a' HI
  unfold outInv
  rw [show Scf.trips k0_t3_loop.lb k0_t3_loop.ub k0_t3_loop.st = 32 from trips_t3]
  icases HI with ⟨Hn, Hsv, Hev, %fr, %hr, Hu⟩
  replace hr : ∀ p : S512.Idx, outV.view.read (Elt F) fr p = rowOut W A B (base i + (p 0).val) := fun p => hr p (p 0).isLt
  unfold tile_body.sl.prog.cont_2
  ihave Hu' := (show (outV.view.loc (thr d i) ↦{fullShare} fr : sProp 𝕄) ⊢ (outV.view.loc (thr d i) ↦{fullShare} fr) from .rfl) $$ Hu
  sl_exec
  rw [show (outRow i).view.writes (Elt F) fo [⟨Rect.whole S512, tile_body.sl.dma0_1 fr⟩]
      = (outRow i).view.write (Elt F) fo (tile_body.sl.dma0_1 fr) Finset.univ from
    (View.write_univ_eq_writes_whole (Val := Elt F) (outRow i).view fo [] _).symm]
  ihave Ho := (Entails.of_eq (pointsTo_congr (outRow_written d i W A B fo (tile_body.sl.dma0_1 fr) hr))) $$ Ho
  rw [wp_ret]
  imodintro
  isplitl [Hw Hs He Ho]
  · isplitl [Hw]; · iexact Hw
    isplitl [Hs]; · iexact Hs
    isplitl [He]; · iexact He
    iexact Ho
  isplitl [Ha Hb Hi Hn Hsv Hev Hu' Hbufs]
  · isplitl [Ha]; · iexists _; iexact Ha
    isplitl [Hb]; · iexists _; iexact Hb
    isplitl [Hi]; · iexists _; iexact Hi
    isplitl [Hn]; · iexists _; iexact Hn
    isplitl [Hsv]; · iexists _; iexact Hsv
    isplitl [Hev]; · iexists _; iexact Hev
    isplitl [Hu']; · iexists _; iexact Hu'
    iexact Hbufs
  isplitl [Hsem HsemA HsemB HsemC Hsems]
  · isplitl [Hsem]; · iexact Hsem
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp
  · exact .inr (hp ▸ rfl)
  · exact hWo p hp

end

end Cert.Proof.Tile
-- ==== Proof.Launch.lean ====
/-
  The launch: the arrays dealt to the 32 tiles and collected again, @main on the TensorCore, and the whole program's run.
-/
module

public import proofs.«01_k».proof.Proof.TileBody

@[expose] public section

noncomputable section

namespace Cert.Proof.Launch

open Cert.KernelIdeal Cert.KernelIdeal.Gen Cert.Proof.Spec Cert.Proof.Tile

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.SparseCore Idealize.ShloMosaic.Transfers

variable {F : FTy → Type}

local notation "𝕄" => MT nD τ sig (HIx 1) (Elt F) ℕ UU ℕ

/-! ## The dealing of the arrays -/

/-- The position of core `c`'s tile `s` in the launch's grid. -/
def pos (c : Fin (grid0.bound 0)) (s : Fin (grid0.bound 1)) : grid0.Coords := fun
  | 0 => c
  | 1 => s
  | ⟨_ + 2, h⟩ => absurd h (Nat.not_lt.2 (Nat.le_add_left _ _))

theorem sixteen_pos : 0 < 16 := by decide

/-- The share of a read-only array that core `c`'s tile `s` gets. -/
def shr (c : Fin 2) (s : Fin 16) : PosShare TreeShare := pieceOf (pieceOf fullShare 2 two_pos' c) 16 sixteen_pos s

/-- An array at the full share is its 32 shares. -/
theorem dealt {ℓ : Loc nD τ sig} (f : Buf (Elt F) ℓ) :
    (ℓ ↦{fullShare} f : sProp 𝕄) = bigSep Finset.univ fun c : Fin 2 => bigSep Finset.univ fun s : Fin 16 => ℓ ↦{shr c s} f :=
  (pointsTo_piecesOf Finset.univ f two_pos' fullShare).trans (bigSep_congr fun c _ => pointsTo_piecesOf Finset.univ f sixteen_pos _)

/-- The part of the result array that core `c`'s tile `s` writes. -/
abbrev oSet (c : Fin 2) (s : Fin 16) : Finset S16384.Idx := (outRow (pos c s)).view.set

theorem mem_oSet (c : Fin 2) (s : Fin 16) (y : S16384.Idx) :
    y ∈ oSet c s ↔ 1024 * s.val + 512 * c.val ≤ (y 0).val ∧ (y 0).val < 1024 * s.val + 512 * c.val + 512 := by
  have e : oSet c s = (Rect.unit (s := S16384) (k0_off8 (pos c s)) S512.size (k0_off8_inb (pos c s))).set := by
    show ((View.whole (main_v3_scv : Ref sig .scVector)).slice (Rect.unit (s := S16384) (k0_off8 (pos c s)) S512.size (k0_off8_inb (pos c s)))).set = _
    rw [View.set_slice]; exact Finset.map_refl
  have h0 : k0_off8 (pos c s) 0 = 1024 * s.val + 512 * c.val := congrFun (k0_off8_eq (pos c s)) 0
  rw [e, Rect.mem_set_unit]
  constructor
  · intro h
    have := h 0
    rw [h0] at this
    exact this
  · intro h a
    obtain rfl : a = 0 := Subsingleton.elim _ _
    rw [h0]
    exact h

theorem oSet_disjoint (c c' : Fin 2) (s s' : Fin 16) (h : c ≠ c' ∨ s ≠ s') : Disjoint (oSet c s) (oSet c' s') := by
  rw [Finset.disjoint_left]
  intro y hy hy'
  have h1 := (mem_oSet c s y).mp hy
  have h2 := (mem_oSet c' s' y).mp hy'
  have hc := c.isLt
  have hc' := c'.isLt
  rcases h with h | h
  · exact h (Fin.ext (by omega))
  · exact h (Fin.ext (by omega))

theorem oSet_cover : (Finset.univ : Finset (Fin 2)).biUnion (fun c => (Finset.univ : Finset (Fin 16)).biUnion fun s => oSet c s) = Finset.univ := by
  refine Finset.eq_univ_iff_forall.mpr fun y => ?_
  have hy : (y 0).val < 16384 := (y 0).isLt
  refine Finset.mem_biUnion.mpr ⟨⟨(y 0).val / 512 % 2, by omega⟩, Finset.mem_univ _, Finset.mem_biUnion.mpr ⟨⟨(y 0).val / 1024, by omega⟩, Finset.mem_univ _, ?_⟩⟩
  rw [mem_oSet]
  show 1024 * ((y 0).val / 1024) + 512 * ((y 0).val / 512 % 2) ≤ (y 0).val ∧ (y 0).val < 1024 * ((y 0).val / 1024) + 512 * ((y 0).val / 512 % 2) + 512
  omega

abbrev wLoc (d : Dev nD) : Loc nD τ sig := (SparseCore.T d).loc main_v0
abbrev sLoc (d : Dev nD) : Loc nD τ sig := (SparseCore.T d).loc main_v1
abbrev eLoc (d : Dev nD) : Loc nD τ sig := (SparseCore.T d).loc main_v2
abbrev oLoc (d : Dev nD) : Loc nD τ sig := (SparseCore.T d).loc main_v3

/-- The result array is its 32 parts. -/
theorem oParts (d : Dev nD) (f : Buf (Elt F) (oLoc d)) :
    (oLoc d ↦{fullShare} f : sProp 𝕄)
      = bigSep Finset.univ fun c : Fin 2 => bigSep Finset.univ fun s : Fin 16 => oLoc d ↦[oSet c s]{fullShare} f := by
  have h1 := pointsTo_biUnion (Ix := HIx 1) (Val := Elt F) (Name := ℕ) (U := UU) (Lvl := ℕ) (ℓ := oLoc d) (q := fullShare) (f := f) (Finset.univ : Finset (Fin 2))
    (fun c => (Finset.univ : Finset (Fin 16)).biUnion fun s => oSet c s) (fun c _ c' _ h => by
      rw [Finset.disjoint_biUnion_left]; intro s _
      rw [Finset.disjoint_biUnion_right]; intro s' _
      exact oSet_disjoint c c' s s' (.inl h))
  rw [oSet_cover] at h1
  exact h1.trans (bigSep_congr fun c _ => pointsTo_biUnion (ℓ := oLoc d) (Finset.univ : Finset (Fin 16)) (fun s => oSet c s)
    fun s _ s' _ h => oSet_disjoint c c s s' (.inr h))

/-! ## The arrays at the call -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v4

/-- The weights, one row per ray. -/
def Wm (d : Dev nD) : S16384x256.Idx → F .f32 := shapeCast S16384x256 (m (a0Loc d) : S16384x256x1.Idx → F .f32) shapeCasts_S16384x256x1_S16384x256
/-- The table of the starts. -/
def Am (d : Dev nD) : S4194304.Idx → F .f32 := shapeCast S4194304 (m (a1Loc d) : S16384x256x1.Idx → F .f32) shapeCasts_S16384x256x1_S4194304
/-- The table of the ends. -/
def Bm (d : Dev nD) : S4194304.Idx → F .f32 := shapeCast S4194304 (m (a2Loc d) : S16384x256x1.Idx → F .f32) shapeCasts_S16384x256x1_S4194304

variable [FloatOps F]

/-- What the call leaves in the result array. -/
def Om (d : Dev nD) : S16384.Idx → F .f32 := outArr (Wm m d) (Am m d) (Bm m d)

/-- What one tile is handed and hands back: its shares of the weights and the tables, its part of the result array at `f`. -/
abbrev part (d : Dev nD) (c : Fin 2) (s : Fin 16) (f : Buf (Elt F) (oLoc d)) : sProp 𝕄 :=
  iprop((wLoc d ↦{shr c s} (Wm m d)) ∗ (sLoc d ↦{shr c s} (Am m d)) ∗ (eLoc d ↦{shr c s} (Bm m d)) ∗ (oLoc d ↦[oSet c s]{fullShare} f))

/-- What one core is handed and hands back: what its sixteen tiles are. -/
abbrev half (d : Dev nD) (c : Fin 2) (f : Buf (Elt F) (oLoc d)) : sProp 𝕄 := bigSep Finset.univ fun s : Fin 16 => part m d c s f

/-- All four arrays together are what the two cores are handed. -/
theorem halves_eq (d : Dev nD) (f : Buf (Elt F) (oLoc d)) :
    (bigSep Finset.univ fun c : Fin 2 => half m d c f)
      = (iprop((wLoc d ↦{fullShare} (Wm m d)) ∗ (sLoc d ↦{fullShare} (Am m d)) ∗ (eLoc d ↦{fullShare} (Bm m d)) ∗ (oLoc d ↦{fullShare} f)) : sProp 𝕄) := by
  rw [dealt (ℓ := wLoc d), dealt (ℓ := sLoc d), dealt (ℓ := eLoc d), oParts]
  unfold half part
  rw [← bigSep_sep', ← bigSep_sep', ← bigSep_sep']
  refine bigSep_congr fun c _ => ?_
  rw [← bigSep_sep', ← bigSep_sep', ← bigSep_sep']

/-- The call's hand-overs. -/
def P : (K (F := F)).Pay (nD := nD) (Val := Elt F) (Name := ℕ) (U := UU) where
  st := fun q d c => match q with | 0 => half m d c (m (oLoc d))
  dn := fun q d c => match q with | 0 => half m d c (Om m d)
  go := fun q d c s => match q with | 0 => part m d c s (m (oLoc d))
  td := fun q d c s => match q with | 0 => part m d c s (Om m d)
  x := fun _ _ => iprop(emp)

instance P_storable : (P (F := F) m).IsStorable where
  st q d c := match q with
    | 0 => (inferInstance : BI.Storable (upEmb : UEmb _ 𝕄) (half m d c (m (oLoc d))))
  dn q d c := match q with
    | 0 => (inferInstance : BI.Storable (upEmb : UEmb _ 𝕄) (half m d c (Om m d)))
  go q d c s := match q with
    | 0 => (inferInstance : BI.Storable (upEmb : UEmb _ 𝕄) (part m d c s (m (oLoc d))))
  td q d c s := match q with
    | 0 => (inferInstance : BI.Storable (upEmb : UEmb _ 𝕄) (part m d c s (Om m d)))

/-! ## The tiles' obligation -/

theorem defs₀_vector (c : Fin τ.nSC) (s : Fin τ.nSub) :
    defs₀ (F := F) (.scVector c s) 0 () = SparseCore.onTile hcore0 hsub0 (fun c s => body (F := F) (pos c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (pos ⟨_, hci.1⟩ ⟨_, hci.2⟩) facts (Wm m d) (Am m d) (Bm m d) (shr c i) (m (oLoc d)) O W hO).trans
    (wp_mono frame _ _ fun _ => obl_post)

/-- A core's hand-over is its tiles'. -/
theorem vecSplit : (K (F := F)).VecSplit' (P m) 0 := by
  intro d c
  show half m d c (m (oLoc d)) ⊢ |={Set.univ}=> iprop(half m d c (m (oLoc d)) ∗ (half m d c (Om m d) -∗ half m d c (Om m d)))
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev w' : DevRef τ sig := Proc.devRef .tc (main_v0 : Ref sig .tc)
abbrev s' : DevRef τ sig := Proc.devRef .tc (main_v1 : Ref sig .tc)
abbrev e' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev op0 : HloOp τ sig (Elt F) := StableHlo.reshape main_arg0 main_v0 (rfl : (.f32 : EltTy) = .f32) shapeCasts_S16384x256x1_S16384x256
abbrev op1 : HloOp τ sig (Elt F) := StableHlo.reshape main_arg1 main_v1 (rfl : (.f32 : EltTy) = .f32) shapeCasts_S16384x256x1_S4194304
abbrev op2 : HloOp τ sig (Elt F) := StableHlo.reshape main_arg2 main_v2 (rfl : (.f32 : EltTy) = .f32) shapeCasts_S16384x256x1_S4194304
abbrev op3 : HloOp τ sig (Elt F) := StableHlo.reshape main_v3 main_v4 (rfl : (.f32 : EltTy) = .f32) shapeCasts_S16384_S16384x1

/-- The TensorCore's arrays. -/
abbrev S8 : Finset (DevRef τ sig) := {a0', a1', a2', w', s', e', o', r'}

theorem held_S8 (d : Dev nD) (X : Valuation τ sig (Elt F)) :
    (held (SparseCore.T d) S8 X : sProp 𝕄) = iprop((a0Loc d ↦{fullShare} X a0') ∗ (a1Loc d ↦{fullShare} X a1') ∗ (a2Loc d ↦{fullShare} X a2')
      ∗ (wLoc d ↦{fullShare} X w') ∗ (sLoc d ↦{fullShare} X s') ∗ (eLoc d ↦{fullShare} X e') ∗ (oLoc d ↦{fullShare} X o') ∗ (rLoc d ↦{fullShare} X r')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_S8 (d : Dev nD) (X : (b : Ref sig .tc) → Buf (Elt F) ((d.tc : Thread nD τ).loc b)) :
    (unscopedBufs d X : sProp 𝕄) = iprop((a0Loc d ↦{fullShare} X main_arg0) ∗ (a1Loc d ↦{fullShare} X main_arg1) ∗ (a2Loc d ↦{fullShare} X main_arg2)
      ∗ (wLoc d ↦{fullShare} X main_v0) ∗ (sLoc d ↦{fullShare} X main_v1) ∗ (eLoc d ↦{fullShare} X main_v2) ∗ (oLoc d ↦{fullShare} X main_v3)
      ∗ (rLoc d ↦{fullShare} X main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at launch, before the call, after it, and at the end. -/
def V0 (d : Dev nD) : Valuation τ sig (Elt F) := fun b => m (d, b)
def V3 (d : Dev nD) : Valuation τ sig (Elt F) := (op2 (F := F)).result ((op1 (F := F)).result ((op0 (F := F)).result (V0 m d)))
def V4 (d : Dev nD) : Valuation τ sig (Elt F) := Function.update (V3 m d) o' (Om m d)
def V5 (d : Dev nD) : Valuation τ sig (Elt F) := (op3 (F := F)).result (V4 m d)

theorem unscoped_held (d : Dev nD) : (unscopedBufs d (fun b => m ((SparseCore.T d).loc b)) : sProp 𝕄) = held (SparseCore.T d) S8 (V0 m d) := by
  rw [unscoped_S8, held_S8]; rfl

/-- What the three reshapes leave. -/
theorem V3_kept (d : Dev nD) (r : Ref sig .tc) (h0 : r ≠ main_v0) (h1 : r ≠ main_v1) (h2 : r ≠ main_v2) :
    V3 m d (Proc.devRef .tc r) = m ((SparseCore.T d).loc r) := by
  unfold V3
  rw [StableHlo.reshape_result_ne _ _ _ _ _ _ _ h2, StableHlo.reshape_result_ne _ _ _ _ _ _ _ h1, StableHlo.reshape_result_ne _ _ _ _ _ _ _ h0]
  rfl

theorem V3_w (d : Dev nD) : V3 m d w' = Wm m d := by
  unfold V3
  rw [StableHlo.reshape_result_ne _ _ _ _ _ _ _ (by decide), StableHlo.reshape_result_ne _ _ _ _ _ _ _ (by decide), StableHlo.reshape_result]
  rfl

theorem V3_s (d : Dev nD) : V3 m d s' = Am m d := by
  unfold V3
  rw [StableHlo.reshape_result_ne _ _ _ _ _ _ _ (by decide), StableHlo.reshape_result]
  funext i
  show shapeCast S4194304 ((op0 (F := F)).result (V0 m d) a1') _ i = _
  rw [StableHlo.reshape_result_ne _ _ _ _ _ _ _ (by decide)]
  rfl

theorem V3_e (d : Dev nD) : V3 m d e' = Bm m d := by
  unfold V3
  rw [StableHlo.reshape_result]
  funext i
  show shapeCast S4194304 ((op1 (F := F)).result ((op0 (F := F)).result (V0 m d)) a2') _ i = _
  rw [StableHlo.reshape_result_ne _ _ _ _ _ _ _ (by decide), StableHlo.reshape_result_ne _ _ _ _ _ _ _ (by decide)]
  rfl

theorem V4_o (d : Dev nD) : V4 m d o' = Om m d := Function.update_self _ _ _
theorem V4_ne (d : Dev nD) {b : DevRef τ sig} (h : b ≠ o') : V4 m d b = V3 m d b := Function.update_of_ne h _ _

/-- The result, one entry per ray. -/
def Rm (d : Dev nD) : S16384x1.Idx → F .f32 := shapeCast S16384x1 (Om m d) shapeCasts_S16384_S16384x1

theorem V5_r (d : Dev nD) : V5 m d r' = Rm m d := by
  unfold V5
  rw [StableHlo.reshape_result]
  funext i
  show shapeCast S16384x1 (V4 m d o') _ i = _
  rw [V4_o]
  rfl

theorem V5_kept (d : Dev nD) (r : Ref sig .tc) (h0 : r ≠ main_v0) (h1 : r ≠ main_v1) (h2 : r ≠ main_v2) (h3 : r ≠ main_v3) (h4 : r ≠ main_v4) :
    V5 m d (Proc.devRef .tc r) = m ((SparseCore.T d).loc r) := by
  unfold V5
  rw [StableHlo.reshape_result_ne _ _ _ _ _ _ _ h4, V4_ne m d (fun e => h3 (Proc.devRef_injective _ e)), V3_kept m d r h0 h1 h2]

/-- What the call takes for the two cores, and what it hands back. -/
theorem st0_eq (d : Dev nD) : (bigSep Finset.univ fun c : Fin ((K (F := F)).nCore 0) => (P m).st 0 d c)
    = iprop((wLoc d ↦{fullShare} (Wm m d)) ∗ (sLoc d ↦{fullShare} (Am m d)) ∗ (eLoc d ↦{fullShare} (Bm m d)) ∗ (oLoc d ↦{fullShare} m (oLoc d))) :=
  halves_eq m d (m (oLoc d))
theorem dn0_eq (d : Dev nD) : (bigSep Finset.univ fun c : Fin ((K (F := F)).nCore 0) => (P m).dn 0 d c)
    = iprop((wLoc d ↦{fullShare} (Wm m d)) ∗ (sLoc d ↦{fullShare} (Am m d)) ∗ (eLoc d ↦{fullShare} (Bm m d)) ∗ (oLoc d ↦{fullShare} (Om m d))) :=
  halves_eq m d (Om m d)

theorem hop0 : (op0 (F := F)).bufs ⊆ S8 := show ({a0', w'} : Finset (DevRef τ sig)) ⊆ S8 by decide
theorem hop1 : (op1 (F := F)).bufs ⊆ S8 := show ({a1', s'} : Finset (DevRef τ sig)) ⊆ S8 by decide
theorem hop2 : (op2 (F := F)).bufs ⊆ S8 := show ({a2', e'} : Finset (DevRef τ sig)) ⊆ S8 by decide
theorem hop3 : (op3 (F := F)).bufs ⊆ S8 := show ({o', r'} : Finset (DevRef τ sig)) ⊆ S8 by decide

/-- What @main leaves the claim: the arrays at their last contents. -/
abbrev FIN (d : Dev nD) : sProp 𝕄 := held (SparseCore.T d) S8 (V5 m d)

/-- The arrays before the call: the three arguments and the result, and what the call takes. -/
theorem held_V3 (d : Dev nD) : (held (SparseCore.T d) S8 (V3 m d) : sProp 𝕄)
    = iprop((a0Loc d ↦{fullShare} m (a0Loc d)) ∗ (a1Loc d ↦{fullShare} m (a1Loc d)) ∗ (a2Loc d ↦{fullShare} m (a2Loc d))
      ∗ (wLoc d ↦{fullShare} (Wm m d)) ∗ (sLoc d ↦{fullShare} (Am m d)) ∗ (eLoc d ↦{fullShare} (Bm m d)) ∗ (oLoc d ↦{fullShare} m (oLoc d))
      ∗ (rLoc d ↦{fullShare} m (rLoc d))) := by
  rw [held_S8, V3_w, V3_s, V3_e, V3_kept m d main_arg0 (by decide) (by decide) (by decide), V3_kept m d main_arg1 (by decide) (by decide) (by decide),
    V3_kept m d main_arg2 (by decide) (by decide) (by decide), V3_kept m d main_v3 (by decide) (by decide) (by decide),
    V3_kept m d main_v4 (by decide) (by decide) (by decide)]

theorem held_V4 (d : Dev nD) : (held (SparseCore.T d) S8 (V4 m d) : sProp 𝕄)
    = iprop((a0Loc d ↦{fullShare} m (a0Loc d)) ∗ (a1Loc d ↦{fullShare} m (a1Loc d)) ∗ (a2Loc d ↦{fullShare} m (a2Loc d))
      ∗ (wLoc d ↦{fullShare} (Wm m d)) ∗ (sLoc d ↦{fullShare} (Am m d)) ∗ (eLoc d ↦{fullShare} (Bm m d)) ∗ (oLoc d ↦{fullShare} (Om m d))
      ∗ (rLoc d ↦{fullShare} m (rLoc d))) := by
  rw [held_S8, V4_o, V4_ne m d (b := a0') (by decide), V4_ne m d (b := a1') (by decide), V4_ne m d (b := a2') (by decide), V4_ne m d (b := w') (by decide),
    V4_ne m d (b := s') (by decide), V4_ne m d (b := e') (by decide), V4_ne m d (b := r') (by decide),
    V3_w, V3_s, V3_e, V3_kept m d main_arg0 (by decide) (by decide) (by decide), V3_kept m d main_arg1 (by decide) (by decide) (by decide),
    V3_kept m d main_arg2 (by decide) (by decide) (by decide), V3_kept m d main_v4 (by decide) (by decide) (by decide)]

/-- @main on a device's TensorCore: the three reshapes, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S8) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S8) hop1) $$ [Hb Hheld]
  · isplitl [Hb] <;> iassumption
  iintro ⟨Hb, Hheld⟩
  rw [wp_ret]; imodintro
  iapply (wp_hlo_within 𝒱 (SparseCore.T d) none Set.univ (op := op2) (S := S8) hop2) $$ [Hb Hheld]
  · isplitl [Hb] <;> iassumption
  iintro ⟨Hb, Hheld⟩
  rw [wp_ret]; imodintro
  ihave Hh := (show (held (SparseCore.T d) S8 ((op2 (F := F)).result ((op1 (F := F)).result ((op0 (F := F)).result (V0 m d)))) : sProp 𝕄) ⊢ _ from
    Entails.of_eq (held_V3 m d)) $$ Hheld
  icases Hh with ⟨H0, H1, H2, Hw, Hs, He, Ho, Hr⟩
  iapply ((K (F := F)).wp_run (D (F := F)) 𝒱 (EH := EH) (P := P m) κ d 0) $$ [Hst Hw Hs He Ho H0 H1 H2 Hr Hb Hts]
  isplitr; · iexact Hctx
  isplitl [Hst]; · iexact Hst
  isplitl [Hw Hs He Ho]
  · rw [st0_eq]
    isplitl [Hw]; · iexact Hw
    isplitl [Hs]; · iexact Hs
    isplitl [He]; · iexact He
    iexact Ho
  iintro ⟨Hst, Hdn⟩
  ihave Hdn' := (Entails.of_eq (dn0_eq m d)) $$ Hdn
  icases Hdn' with ⟨Hw, Hs, He, Ho⟩
  iapply (wp_hlo_within 𝒱 (SparseCore.T d) none Set.univ (op := op3) (S := S8) hop3 (V := V4 m d)) $$ [Hb H0 H1 H2 Hw Hs He Ho Hr]
  · isplitl [Hb]; · iexact Hb
    rw [held_V4]
    isplitl [H0]; · iexact H0
    isplitl [H1]; · iexact H1
    isplitl [H2]; · iexact H2
    isplitl [Hw]; · iexact Hw
    isplitl [Hs]; · iexact Hs
    isplitl [He]; · iexact He
    isplitl [Ho]; · iexact Ho
    iexact Hr
  iintro ⟨Hb, Hheld⟩
  ihave Hend := (show (held (SparseCore.T d) S8 ((op3 (F := F)).result (V4 m d)) : sProp 𝕄) ⊢ held (SparseCore.T d) S8 (V5 m d) from .rfl) $$ Hheld
  rw [wp_ret]; imodintro; imodintro
  isplitl [Hst]; · iexact Hst
  isplitr [Hb Hts]
  · iexact Hend
  isplitl [Hb] <;> iassumption

/-- What a final memory holds: the arguments unchanged, the result as computed. -/
def fq (d : Dev nD) (s : Phys nD τ sig (Elt F)) : Prop :=
  s.mem.mem (a0Loc d) = m (a0Loc d) ∧ s.mem.mem (a1Loc d) = m (a1Loc d) ∧ s.mem.mem (a2Loc d) = m (a2Loc d) ∧ s.mem.mem (rLoc d) = Rm m d

theorem held_V5 (d : Dev nD) : (held (SparseCore.T d) S8 (V5 m d) : sProp 𝕄)
    ⊢ iprop((a0Loc d ↦{fullShare} m (a0Loc d)) ∗ (a1Loc d ↦{fullShare} m (a1Loc d)) ∗ (a2Loc d ↦{fullShare} m (a2Loc d)) ∗ (rLoc d ↦{fullShare} (Rm m d))) := by
  rw [held_S8, V5_r, V5_kept m d main_arg0 (by decide) (by decide) (by decide) (by decide) (by decide),
    V5_kept m d main_arg1 (by decide) (by decide) (by decide) (by decide) (by decide), V5_kept m d main_arg2 (by decide) (by decide) (by decide) (by decide) (by decide)]
  iintro ⟨H0, H1, H2, -, -, -, -, Hr⟩
  isplitl [H0]; · iexact H0
  isplitl [H1]; · iexact H1
  isplitl [H2]; · iexact H2
  iexact Hr

theorem hfin (d : Dev nD) (s : Phys nD τ sig (Elt F)) : iprop(FIN m d ∗ SI s) ⊢ (⌜fq m d s⌝ : sProp 𝕄) := by
  iintro ⟨HF, HSI⟩
  ihave HF := (held_V5 m d) $$ HF
  icases HF with ⟨H0, H1, H2, Hr⟩
  ihave H := (persistent_entails_right (SI_pointsTo_agree (st := s) (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s) (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s) (ℓ := a2Loc d) (I := Finset.univ) (q := fullShare) (f := m (a2Loc d)))) $$ [HSI H2]
  · isplitl [HSI] <;> iassumption
  icases H with ⟨%h2, HSI, -⟩
  ihave H := (SI_pointsTo_agree (st := s) (ℓ := rLoc d) (I := Finset.univ) (q := fullShare) (f := (Rm m d : Buf (Elt F) (rLoc d)))) $$ [HSI Hr]
  · isplitl [HSI] <;> iassumption
  icases H with %hr
  ipureintro
  exact ⟨funext fun i => h0 i (Finset.mem_univ i), funext fun i => h1 i (Finset.mem_univ i), funext fun i => h2 i (Finset.mem_univ i),
    funext fun i => hr i (Finset.mem_univ i)⟩

/-! ## The whole program's run -/

/-- The program runs; at the end the arguments are unchanged, the result is as computed, and every semaphore is back at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (a0Loc d) = m (a0Loc d) ∧ r.2.mem (a1Loc d) = m (a1Loc d) ∧ r.2.mem (a2Loc d) = m (a2Loc d) ∧ r.2.mem (rLoc d) = Rm m d)
        ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Launch
-- ==== Proof.Sums.lean ====
/-
  The kernel's counts at extended reals, for weights that are not negative and not infinite: a running sum is the sum
  of a prefix, a count is the number of prefix sums below one half, and a row whose count stopped inside the first
  sixteen columns has the same count over all of them.
-/
module

public import proofs.«01_k».proof.Proof.Spec
public import Idealize.ShloMosaic.PureOps.Ideal
public import Idealize.ShloMosaic.Lib.IdealHost
public import Mathlib.Data.Nat.Bitwise
public import Mathlib.Order.Interval.Finset.Nat
public import Mathlib.Algebra.Order.BigOperators.Group.Finset

@[expose] public section

noncomputable section

namespace Cert.Proof.Sums

open Cert.KernelIdeal Cert.KernelIdeal.Gen Cert.Proof.Spec
open Idealize.ShloMosaic Idealize.ShloMosaic.ValueIdx
open scoped BigOperators

/-- One half. -/
abbrev half : EReal := Ideal.ofBits .f32 0x3F000000#32

theorem half_eq : half = (((1 : ℝ) / 2 : ℝ) : EReal) := by
  unfold half
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- Halving by a division and by a product are one value, infinite or not. -/
theorem div_two (x : EReal) : Ideal.div x (Ideal.ofBits .f32 0x40000000#32) = x * half := by
  have h2 : (((2 : ℝ) : EReal)) ≠ 0 := by norm_num
  unfold Ideal.div
  rw [two_eq, if_neg h2, half_eq, ← EReal.coe_inv]
  norm_num

/-- The sum of the entries `0 … k`. -/
def pre (w : ℕ → EReal) (k : ℕ) : EReal := ∑ i ∈ Finset.range (k + 1), w i

theorem acc_eq (w : ℕ → Ideal .f32) (k : ℕ) : acc (F := Ideal) w k = pre w k := by
  induction k with
  | zero => simp [acc, pre]
  | succ k ih =>
    show (acc (F := Ideal) w k : EReal) + w (k + 1) = _
    rw [ih, pre, pre, Finset.sum_range_succ _ (k + 1)]

/-- The prefix sum up to `i` is below one half. -/
def Low (w : ℕ → EReal) (i : ℕ) : Prop := pre w i < half

instance (w : ℕ → EReal) : DecidablePred (Low w) := fun _ => by unfold Low; infer_instance

theorem below_eq (x : EReal) : below (F := Ideal) x = if x < half then 1#32 else 0#32 := by
  show Scalar.select (BitVec.ofBool (decide (x < half))) 1#32 0#32 = _
  by_cases h : x < half
  · rw [if_pos h, decide_eq_true h]; rfl
  · rw [if_neg h, decide_eq_false h]; rfl

theorem cnt_eq (w : ℕ → Ideal .f32) (k : ℕ) : cnt (F := Ideal) w k = BitVec.ofNat 32 (Nat.count (Low w) (k + 1)) := by
  induction k with
  | zero =>
    rw [cnt, below_eq, acc_eq, Nat.count_succ, Nat.count_zero]
    show (if Low w 0 then _ else _) = _
    split <;> rfl
  | succ k ih =>
    rw [cnt, ih, below_eq, acc_eq, Nat.count_succ (Low w) (k + 1), BitVec.ofNat_add]
    congr 1
    show (if Low w (k + 1) then _ else _) = _
    split <;> rfl

theorem pre_mono (w : ℕ → EReal) (h0 : ∀ i, 0 ≤ w i) {i j : ℕ} (hij : i ≤ j) : pre w i ≤ pre w j :=
  Finset.sum_le_sum_of_subset_of_nonneg (Finset.range_mono (by omega)) fun k _ _ => h0 k

/-- Once a prefix sum is not below one half, none after it is: the count over `m` entries is final unless it is `m`. -/
theorem count_stop (w : ℕ → EReal) (h0 : ∀ i, 0 ≤ w i) (m n : ℕ) (hmn : m ≤ n) (hc : Nat.count (Low w) m < m) :
    Nat.count (Low w) n = Nat.count (Low w) m := by
  obtain ⟨i, hi, hn⟩ : ∃ i < m, ¬ Low w i := by
    by_contra hall
    push Not at hall
    exact absurd ((Nat.count_iff_forall).2 fun {i} hi => hall i hi) (by omega)
  induction n, hmn using Nat.le_induction with
  | base => rfl
  | succ n hmn ih =>
    rw [Nat.count_succ, ih, if_neg, Nat.add_zero]
    exact fun h => hn (lt_of_le_of_lt (pre_mono w h0 (by omega)) h)

/-- A sum of values that are neither negative nor infinite is a real number. -/
theorem sum_real (w : ℕ → EReal) (h0 : ∀ i, 0 ≤ w i) (h1 : ∀ i, w i < ⊤) (n : ℕ) : ∃ r : ℝ, ∑ i ∈ Finset.range n, w i = (r : EReal) := by
  induction n with
  | zero => exact ⟨0, by simp⟩
  | succ n ih =>
    obtain ⟨r, hr⟩ := ih
    have hb : w n ≠ ⊥ := fun e => absurd (h0 n) (by rw [e]; simp)
    refine ⟨r + (w n).toReal, ?_⟩
    rw [Finset.sum_range_succ, hr, EReal.coe_add, EReal.coe_toReal (h1 n).ne hb]

/-- With the missing weight `1 - Σ` behind a row, the last prefix sum is one, which is not below one half. -/
theorem last_high (w f : ℕ → EReal) (h0 : ∀ i, 0 ≤ w i) (h1 : ∀ i, w i < ⊤) (n : ℕ) (hf : ∀ i < n, f i = w i)
    (hl : f n = 1 - ∑ i ∈ Finset.range n, w i) : ¬ Low f n := by
  obtain ⟨r, hr⟩ := sum_real w h0 h1 n
  have e : pre f n = 1 := by
    rw [pre, Finset.sum_range_succ, hl, Finset.sum_congr rfl (fun i hi => hf i (Finset.mem_range.1 hi)), hr]
    rw [show (1 : EReal) = ((1 : ℝ) : EReal) from rfl, ← EReal.coe_sub, ← EReal.coe_add]
    congr 1; ring
  unfold Low
  rw [e, half_eq, show (1 : EReal) = ((1 : ℝ) : EReal) from rfl, EReal.coe_lt_coe_iff]
  norm_num

/-- The count over the row and the missing weight is the count over the row. -/
theorem count_ext (w f : ℕ → EReal) (h0 : ∀ i, 0 ≤ w i) (h1 : ∀ i, w i < ⊤) (n : ℕ) (hf : ∀ i < n, f i = w i)
    (hl : f n = 1 - ∑ i ∈ Finset.range n, w i) : Nat.count (Low f) (n + 1) = Nat.count (Low w) n := by
  rw [Nat.count_succ, if_neg (last_high w f h0 h1 n hf hl), Nat.add_zero, Nat.count_eq_card_filter_range, Nat.count_eq_card_filter_range]
  refine congrArg Finset.card (Finset.filter_congr fun i hi => ?_)
  have hin := Finset.mem_range.1 hi
  unfold Low pre
  rw [Finset.sum_congr rfl fun j hj => hf j (by have := Finset.mem_range.1 hj; omega)]

/-! ## The largest of sixteen counts -/

/-- A fold by the unsigned maximum is at least each word it takes and its start. -/
theorem foldl_max_ge {ι : Type} (v : ι → BitVec 32) (l : List ι) (z : BitVec 32) :
    z.toNat ≤ (l.foldl (fun r k => ScanKind.max.step r (v k)) z).toNat ∧
      ∀ k ∈ l, (v k).toNat ≤ (l.foldl (fun r k => ScanKind.max.step r (v k)) z).toNat := by
  have step : ∀ a b : BitVec 32, a.toNat ≤ (ScanKind.max.step a b).toNat ∧ b.toNat ≤ (ScanKind.max.step a b).toNat := by
    intro a b
    show a.toNat ≤ (IntOp.maxui a b).toNat ∧ b.toNat ≤ (IntOp.maxui a b).toNat
    unfold IntOp.maxui
    split <;> rename_i h <;> simp only [BitVec.ult, BitVec.lt_def, decide_eq_true_eq, not_lt] at h <;> omega
  induction l generalizing z with
  | nil => exact ⟨le_rfl, fun k hk => absurd hk List.not_mem_nil⟩
  | cons a l ih =>
    have h := ih (ScanKind.max.step z (v a))
    rw [List.foldl_cons]
    refine ⟨(step z (v a)).1.trans h.1, fun k hk => ?_⟩
    rcases List.mem_cons.1 hk with rfl | hk
    · exact (step z (v k)).2.trans h.1
    · exact h.2 k hk

/-- The last entry of a scan by the maximum is at least every entry. -/
theorem scan_ge (v : IVec S16 32) (x : S16.Idx) : (v x).toNat ≤ (scan .max v (ix1 ⟨15, by decide⟩)).toNat := by
  have hx : (x 0).val < 16 := (x 0).isLt
  have hl : ∀ k : Fin 16, k = x 0 → v (Shape.ofLane k) = v x := fun k hk => congrArg v (by
    funext a; obtain rfl := Fin.fin_one_eq_zero a; exact Fin.ext (by rw [← hk]; rfl))
  unfold scan
  by_cases h : (x 0).val = 0
  · refine le_trans (le_of_eq ?_) (foldl_max_ge _ _ _).1
    exact congrArg BitVec.toNat (hl _ (Fin.ext h.symm)).symm
  · refine le_trans (le_of_eq ?_) ((foldl_max_ge (fun k => v (Shape.ofLane k)) _ _).2 (x 0) ?_)
    · exact congrArg BitVec.toNat (hl _ rfl).symm
    · refine List.mem_filter.2 ⟨List.mem_finRange _, decide_eq_true ⟨Nat.pos_of_ne_zero h, ?_⟩⟩
      show (x 0).val ≤ 15
      omega

/-- Setting the top bit of a word that has it clear, by an exclusive or, adds it. -/
theorem flip_low (b : ℕ) (hb : b < 2147483648) : BitVec.ofNat 32 b ^^^ 2147483648#32 = BitVec.ofNat 32 b + 2147483648#32 := by
  have hz : BitVec.ofNat 32 b &&& 2147483648#32 = 0#32 := by
    apply BitVec.eq_of_toNat_eq
    rw [BitVec.toNat_and, BitVec.toNat_ofNat, Nat.mod_eq_of_lt (by omega)]
    show b &&& 2 ^ 31 = 0
    rw [Nat.and_two_pow, Nat.testBit_lt_two_pow hb]
    rfl
  rw [BitVec.add_eq_or_of_and_eq_zero _ _ hz]
  ext i hi
  have h := congrArg (fun v => v.getLsbD i) hz
  simp only [BitVec.getLsbD_and, BitVec.getLsbD_zero] at h
  simp only [← BitVec.getLsbD_eq_getElem, BitVec.getLsbD_or, BitVec.getLsbD_xor]
  revert h
  cases (BitVec.ofNat 32 b).getLsbD i <;> cases (2147483648#32).getLsbD i <;> decide

/-- A word at least sixteen's with its top bit set is, with that bit flipped and read signed, at least sixteen. -/
theorem flip_ge (s : BitVec 32) (h : 2147483664 ≤ s.toNat) : IntOp.cmpi .sge (s ^^^ 2147483648#32) 16#32 = 1#1 := by
  have hs : s.toNat < 4294967296 := s.isLt
  have hb : s.toNat - 2147483648 < 2147483648 := by omega
  have e : s = BitVec.ofNat 32 (s.toNat - 2147483648) ^^^ 2147483648#32 := by
    rw [flip_low _ hb]
    apply BitVec.eq_of_toNat_eq
    rw [BitVec.toNat_add, BitVec.toNat_ofNat, BitVec.toNat_ofNat]
    omega
  have e2 : s ^^^ 2147483648#32 = BitVec.ofNat 32 (s.toNat - 2147483648) := by
    conv_lhs => rw [e]
    rw [BitVec.xor_assoc, BitVec.xor_self, BitVec.xor_zero]
  have ht : (BitVec.ofNat 32 (s.toNat - 2147483648)).toNat = s.toNat - 2147483648 := by
    rw [BitVec.toNat_ofNat]; omega
  rw [e2]
  show BitVec.ofBool (BitVec.sle 16#32 (BitVec.ofNat 32 (s.toNat - 2147483648))) = 1#1
  rw [BitVec.sle_eq_decide, BitVec.toInt_eq_toNat_of_lt (by decide), BitVec.toInt_eq_toNat_of_lt (by rw [ht]; omega), ht]
  rw [decide_eq_true]
  · rfl
  · show ((16 : ℕ) : ℤ) ≤ _
    omega

/-- A group that does not go on has every count below sixteen. -/
theorem lane_lt_of_not_goesOn {F : FTy → Type} [FloatOps F] (W : S16384x256.Idx → F .f32) (g : ℕ) (h : ¬ goesOn W g) (x : S16.Idx) :
    (headCnt W g x).toNat < 16 := by
  by_contra hge
  have hle := cnt_le (wAt W (16 * g + (x 0).val)) 15 (by decide)
  have h16 : headCnt W g x = 16#32 := BitVec.eq_of_toNat_eq (by
    show (headCnt W g x).toNat = 16
    unfold headCnt at hge ⊢
    omega)
  apply h
  have hs := scan_ge (xori (headCnt W g) (broadcast S16 2147483648#32)) x
  have hv : (xori (headCnt W g) (broadcast S16 2147483648#32)) x = 2147483664#32 := by
    show headCnt W g x ^^^ 2147483648#32 = _
    rw [h16]; decide
  rw [hv] at hs
  have hf := flip_ge _ (show 2147483664 ≤ _ from hs)
  unfold goesOn k0_cond1
  have hx : extractAt ![15] (k0_pay26 (headCnt W g)) inpos_S16_p15
      = scan .max (xori (headCnt W g) (broadcast S16 2147483648#32)) (ix1 ⟨15, by decide⟩) ^^^ 2147483648#32 := rfl
  rw [hx]
  show Scalar.cmpi .ne (Scalar.extui (IntOp.cmpi .sge _ 16#32)) 0#32 = 1#1
  rw [hf]
  decide

/-- Row `r`'s count is the number of its prefix sums below one half. -/
theorem rowCnt_eq (W : S16384x256.Idx → Ideal .f32) (h0 : ∀ i, (0 : EReal) ≤ W i) (r : ℕ) (hr : r < 16384) :
    rowCnt W r = BitVec.ofNat 32 (Nat.count (Low (wAt W r)) 256) := by
  have hrow : 16 * (r / 16) + r % 16 = r := by omega
  have hlane : headCnt W (r / 16) (ix1 ⟨r % 16, Nat.mod_lt _ (by decide)⟩) = cnt (wAt W r) 15 := by
    show cnt (wAt W (16 * (r / 16) + r % 16)) 15 = _
    rw [hrow]
  unfold rowCnt groupCnt
  split
  · show cnt (wAt W (16 * (r / 16) + r % 16)) 255 = _
    rw [hrow, cnt_eq]
  · rename_i hg
    have hlt := lane_lt_of_not_goesOn W (r / 16) hg (ix1 ⟨r % 16, Nat.mod_lt _ (by decide)⟩)
    have hc : Nat.count (Low (wAt W r)) (15 + 1) ≤ 15 + 1 := Nat.count_le _
    rw [hlane, cnt_eq] at hlt ⊢
    rw [BitVec.toNat_ofNat, Nat.mod_eq_of_lt (by omega)] at hlt
    rw [count_stop (wAt W r) (fun i => h0 _) 16 256 (by decide) hlt]

end Cert.Proof.Sums
-- ==== Proof.RefValue.lean ====
/-
  What the reference computes, array by array and read at an index: the weights with the missing weight behind each row,
  their prefix sums, how many of those are below one half, and the entry of the interval middles that the count picks.
-/
module

public import proofs.«01_k».proof.Proof.Gen.ReferenceIdeal
public import proofs.«01_k».proof.Proof.Gen.ReferenceIdeal.Run
public import proofs.«01_k».proof.Proof.Sums
public import Idealize.ShloMosaic.Lib.FinSumWindow
public import Idealize.ShloMosaic.Lib.IdealHost
public import Idealize.ShloMosaic.Lib.ReduceAll
public import Idealize.ShloMosaic.Lib.Pipeline.Value
public import Idealize.ShloMosaic.Lib.Pointwise.Reduce
public import Idealize.ShloMosaic.Lib.Pointwise.SelectCore
public import Idealize.ShloMosaic.Lib.Routing.OpsSearch

@[expose] public section

noncomputable section

namespace Cert.Proof.Ref

open Cert.ReferenceIdeal Cert.ReferenceIdeal.Gen Cert.Proof.Sums
open Idealize.ShloMosaic hiding ix1 ix2 ix3
open Idealize.ShloMosaic.ValueIdx Idealize.ShloMosaic.TcCoe
open scoped BigOperators

/-- How the reference's last step picks: one entry of each row. -/
abbrev gd : GatherDims S16384x257 S16384x1x1 S16384x1 := gather_S16384x257_S16384x1x1_S16384x1_n_1_0_0_1_2_11

/-! ## The arrays -/

/-- The weights with, behind each row, one minus the row's sum. -/
def wExt (w : S16384x256x1.Idx → Ideal .f32) : S16384x257.Idx → Ideal .f32 :=
  shapeCast _ (concatenate S16384x257x1 1 [⟨S16384x256x1, w⟩, ⟨S16384x1x1, (subf (broadcastInDim S16384x1x1 ![] bcast_S_S16384x1x1 (constant S_ .f32 0x3F800000#32)) (broadcastInDim S16384x1x1 ![0, 2] bcast_S16384x1_S16384x1x1_0_2 (Host.reduceAdd w (constant S_ .f32 0x00000000#32) reducesTo_S16384x256x1_S16384x1_d1 h_S_)))⟩] concatenates_S16384x256x1_S16384x1x1_S16384x257x1_d1) shapeCasts_S16384x257x1_S16384x257

/-- The sums of the prefixes of each row. -/
def prefixes (x : S16384x257.Idx → Ideal .f32) : S16384x257.Idx → Ideal .f32 :=
  Host.reduceWindowAdd ![1, 257] ![1, 1] ![0, 256] ![0, 0] x (broadcastInDim S_ ![] bcast_S_S_ (constant S_ .f32 0x00000000#32)) reduceWindows_S16384x257_S16384x257_w1s1p0_0_w257s1p256_0 h_S_

/-- How many entries of each row are below one half. -/
def lows (x : S16384x257.Idx → Ideal .f32) : IVec S16384 32 :=
  Host.reduce IntOp.addi (extui 32 (cmpf .olt x (broadcastInDim S16384x257 ![] bcast_S_S16384x257 (constant S_ .f32 0x3F000000#32))) natLt_1_32) (constantI S_ 32 0#32) reducesTo_S16384x257_S16384_d1 h_S_

/-- The counts, kept within a row, as one column. -/
def clipped (n : IVec S16384 32) : IVec S16384x1 32 :=
  minsi (broadcastInDim S16384x1 ![] bcast_S_S16384x1 (id (constantI S_ 32 256#32))) (maxsi (broadcastInDim S16384x1 ![] bcast_S_S16384x1 (id (constantI S_ 32 0#32))) (broadcastInDim S16384x1 ![0] bcast_S16384_S16384x1_0 n))

/-- The middles of the intervals with the far plane behind each row. -/
def middles (a b : S16384x256x1.Idx → Ideal .f32) : S16384x257.Idx → Ideal .f32 :=
  shapeCast _ (concatenate S16384x257x1 1 [⟨S16384x256x1, (Host.divf (addf a b) (broadcastInDim S16384x256x1 ![] bcast_S_S16384x256x1 (constant S_ .f32 0x40000000#32)))⟩, ⟨S16384x1x1, (mulf (broadcastInDim S16384x1x1 ![] bcast_S_S16384x1x1 (constant S_ .f32 0x3F800000#32)) (broadcastInDim S16384x1x1 ![] bcast_S_S16384x1x1 (constant S_ .f32 0x41200000#32)))⟩] concatenates_S16384x256x1_S16384x1x1_S16384x257x1_d1) shapeCasts_S16384x257x1_S16384x257

/-- The column of places, counted from the front. -/
def places (i : IVec S16384x1 32) : IVec S16384x1x1 32 :=
  shapeCast _ (select (cmpi .slt i (broadcastInDim S16384x1 ![] bcast_S_S16384x1 (constantI S_ 32 0#32))) (addi i (broadcastInDim S16384x1 ![] bcast_S_S16384x1 (constantI S_ 32 257#32))) i) shapeCasts_S16384x1_S16384x1x1

/-- The entry of each row at its place, where the place is inside the row. -/
def taken (x : S16384x257.Idx → Ideal .f32) (v : IVec S16384x1x1 32) : S16384x1.Idx → Ideal .f32 :=
  select (Host.reduce IntOp.andi (andi (cmpi .sge v (broadcastInDim S16384x1x1 ![] bcast_S_S16384x1x1 (constantI S_ 32 0#32))) (cmpi .sle v (broadcastInDim S16384x1x1 ![0, 1, 2] bcast_S1x1x1_S16384x1x1_0_1_2 (broadcastInDim S1x1x1 ![2] bcast_S1_S1x1x1_2 (constantI S1 32 256#32))))) (constantI S_ 1 1#1) reducesTo_S16384x1x1_S16384x1_d2 h_S_)
    (Host.gather gather_S16384x257_S16384x1x1_S16384x1_n_1_0_0_1_2_11 x v)
    (broadcastInDim S16384x1 ![] bcast_S_S16384x1 (constant S_ .f32 0x7FC00000#32))

/-- The reference's result is the composite of these arrays. -/
theorem out_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v21 m c
      = taken (middles (m ((c.tc : Thread _ _).loc main_arg1)) (m ((c.tc : Thread _ _).loc main_arg2)))
          (places (clipped (lows (prefixes (wExt (m ((c.tc : Thread _ _).loc main_arg0))))))) := by
  unfold Cert.ReferenceIdeal.Value.res_main_v21
  rfl

/-! ## The arrays read at an index -/

/-- A rank-three box of one lane cast to a matrix reads the box. -/
theorem cast_lane {α : Type} (x : S16384x257x1.Idx → α) (r : Fin 16384) (k : Fin 257) :
    shapeCast S16384x257 x shapeCasts_S16384x257x1_S16384x257 (ix2 r k) = x (ix3 r k (0 : Fin 1)) :=
  shapeCast_apply x _ _ _ (by
    rw [Shape.rowMajor_val_three, Shape.rowMajor_val_two]
    show (r.val * 257 + k.val) * 1 + 0 = r.val * 257 + k.val
    omega)

/-- Before the last column, a row with a column laid behind it reads the row. -/
theorem join_lt {α : Type} (x : S16384x256x1.Idx → α) (y : S16384x1x1.Idx → α) (r : Fin 16384) (k : Fin 257) (hk : k.val < 256) :
    concatenate S16384x257x1 1 [⟨S16384x256x1, x⟩, ⟨S16384x1x1, y⟩] concatenates_S16384x256x1_S16384x1x1_S16384x257x1_d1 (ix3 r k (0 : Fin 1))
      = x (ix3 r ⟨k.val, hk⟩ (0 : Fin 1)) := by
  refine (concatenate_pair_apply _ x y _ _).trans ((dif_pos (show k.val < 256 from hk)).trans ?_)
  refine congrArg x (funext fun a => Fin.ext ?_)
  match a with
  | ⟨0, _⟩ => rfl
  | ⟨1, _⟩ => rfl
  | ⟨2, _⟩ => rfl

/-- At the last column it reads the column laid behind. -/
theorem join_last {α : Type} (x : S16384x256x1.Idx → α) (y : S16384x1x1.Idx → α) (r : Fin 16384) :
    concatenate S16384x257x1 1 [⟨S16384x256x1, x⟩, ⟨S16384x1x1, y⟩] concatenates_S16384x256x1_S16384x1x1_S16384x257x1_d1
        (ix3 r (⟨256, by decide⟩ : Fin 257) (0 : Fin 1))
      = y (ix3 r (0 : Fin 1) (0 : Fin 1)) := by
  refine (concatenate_pair_apply _ x y _ _).trans ((dif_neg (show ¬ (256 < 256) by decide)).trans ?_)
  refine congrArg y (funext fun a => Fin.ext ?_)
  match a with
  | ⟨0, _⟩ => rfl
  | ⟨1, _⟩ => rfl
  | ⟨2, _⟩ => rfl

theorem wExt_lt (w : S16384x256x1.Idx → Ideal .f32) (r : Fin 16384) (k : Fin 257) (hk : k.val < 256) :
    wExt w (ix2 r k) = w (ix3 r ⟨k.val, hk⟩ (0 : Fin 1)) := by
  unfold wExt
  rw [cast_lane, join_lt _ _ r k hk]

theorem wExt_last (w : S16384x256x1.Idx → Ideal .f32) (r : Fin 16384) :
    (wExt w (ix2 r (⟨256, by decide⟩ : Fin 257)) : EReal) = 1 - ∑ k : Fin 256, (w (ix3 r k (0 : Fin 1)) : EReal) := by
  unfold wExt
  rw [cast_lane, join_last]
  show (Ideal.ofBits .f32 0x3F800000#32 : EReal) - _ = _
  rw [Ideal.ofBits_one_f32, broadcastInDim_apply _ _ _ _ (ix2 r (0 : Fin 1)) (fun a => by
    match a with
    | ⟨0, _⟩ => rfl
    | ⟨1, _⟩ => rfl)]
  rw [hostReduceAdd_apply, Ideal.hostReduceAdd_r3_a1]
  show (1 : EReal) - (Ideal.ofBits .f32 0x00000000#32 + _) = _
  rw [Ideal.ofBits_zero_f32, zero_add]
  rfl

/-- A fold of additions is its start plus the sum. -/
theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- Entry `j` of the running sums is the sum of the entries `0 … j` of the row. -/
theorem prefixes_at (x : S16384x257.Idx → Ideal .f32) (f : ℕ → EReal) (r : Fin 16384) (hf : ∀ k : Fin 257, (x (ix2 r k) : EReal) = f k.val)
    (j : Fin 257) : (prefixes x (ix2 r j) : EReal) = pre f j.val := by
  have hj := j.isLt
  have hz : (broadcastInDim S_ ![] bcast_S_S_ (constant S_ .f32 0x00000000#32 : FVec Ideal S_ .f32)) (Shape.Idx.first h_S_) = (0 : EReal) :=
    Ideal.ofBits_zero_f32
  show Ideal.hostReduceWindowAdd ![1, 257] ![1, 1] ![0, 256] ![0, 0] reduceWindows_S16384x257_S16384x257_w1s1p0_0_w257s1p256_0 x
    ((broadcastInDim S_ ![] bcast_S_S_ (constant S_ .f32 0x00000000#32 : FVec Ideal S_ .f32)) (Shape.Idx.first h_S_)) (ix2 r j) = _
  rw [hz]
  unfold Ideal.hostReduceWindowAdd Host.reduceWindow
  dsimp only
  rw [foldl_add, zero_add]
  have hn : (⟨2, ![1, 257]⟩ : Shape).numel = 257 := Routing.numel2 257
  refine (congrArg List.sum (List.map_congr_left (g := fun n => if 256 ≤ j.val + n.val then f (j.val + n.val - 256) else 0) fun n _ => ?_)).trans ?_
  · clear hz
    have hnl : n.val < 257 := (n.cast hn).isLt
    have h0 : ((⟨2, ![1, 257]⟩ : Shape).rowMajor.symm n 0).val = 0 := by rw [Routing.symm2]; rfl
    have h1 : ((⟨2, ![1, 257]⟩ : Shape).rowMajor.symm n 1).val = n.val := by rw [Routing.symm2]; rfl
    by_cases h : 256 ≤ j.val + n.val
    · rw [if_pos h, dif_pos]
      · rw [← hf ⟨j.val + n.val - 256, by omega⟩]
        refine congrArg x (funext fun a => Fin.ext ?_)
        match a with
        | ⟨0, _⟩ =>
          show r.val * 1 + ((⟨2, ![1, 257]⟩ : Shape).rowMajor.symm n 0).val - 0 = r.val
          rw [h0]; omega
        | ⟨1, _⟩ =>
          show j.val * 1 + ((⟨2, ![1, 257]⟩ : Shape).rowMajor.symm n 1).val - 256 = j.val + n.val - 256
          rw [h1]; omega
      · intro a
        match a with
        | ⟨0, _⟩ =>
          have hr := r.isLt
          show 0 ≤ r.val * 1 + ((⟨2, ![1, 257]⟩ : Shape).rowMajor.symm n 0).val ∧ r.val * 1 + ((⟨2, ![1, 257]⟩ : Shape).rowMajor.symm n 0).val - 0 < 16384
          rw [h0]; omega
        | ⟨1, _⟩ =>
          show 256 ≤ j.val * 1 + ((⟨2, ![1, 257]⟩ : Shape).rowMajor.symm n 1).val ∧ j.val * 1 + ((⟨2, ![1, 257]⟩ : Shape).rowMajor.symm n 1).val - 256 < 257
          rw [h1]; omega
    · rw [if_neg h, dif_neg]
      intro hin
      have h2 : 256 ≤ j.val * 1 + ((⟨2, ![1, 257]⟩ : Shape).rowMajor.symm n 1).val := (hin 1).1
      rw [h1] at h2
      omega
  rw [← Fin.sum_univ_def, Fin.sum_univ_eq_sum_range (fun n => if 256 ≤ j.val + n then f (j.val + n - 256) else 0), hn]
  generalize j.val = j at hj ⊢
  rw [show 257 = (256 - j) + (j + 1) by omega, Finset.sum_range_add, Finset.sum_eq_zero (fun n hn => ?_), zero_add, pre]
  · refine Finset.sum_congr rfl fun n _ => ?_
    rw [if_pos (by omega), show j + (256 - j + n) - 256 = n by omega]
  · exact if_neg (by have := Finset.mem_range.1 hn; omega)

/-- A count of entries below one half. -/
theorem lows_at (x : S16384x257.Idx → Ideal .f32) (f : ℕ → EReal) (r : Fin 16384) (hx : ∀ k : Fin 257, (x (ix2 r k) : EReal) = pre f k.val) :
    lows x (ix1 r) = BitVec.ofNat 32 (Nat.count (Low f) 257) := by
  unfold lows
  refine Routing.reduce_count (by decide) _ natLt_1_32 reducesTo_S16384x257_S16384_d1 h_S_ r (Low f) fun q => ?_
  show BitVec.ofBool (decide ((x (ix2 r q) : EReal) < half)) = 1#1 ↔ pre f q.val < half
  rw [hx]
  by_cases h : pre f q.val < half
  · simp [h]
  · simp [h]

/-- A count within a row is not changed by being kept within it. -/
theorem clipped_at (n : IVec S16384 32) (r : Fin 16384) (k : ℕ) (hk : k ≤ 256) (hn : n (ix1 r) = BitVec.ofNat 32 k) :
    clipped n (ix2 r (0 : Fin 1)) = BitVec.ofNat 32 k := by
  unfold clipped
  show IntOp.minsi (BitVec.ofNat 32 256) (IntOp.maxsi (BitVec.ofNat 32 0) (broadcastInDim S16384x1 ![0] bcast_S16384_S16384x1_0 n (ix2 r (0 : Fin 1)))) = _
  rw [broadcastInDim_apply _ _ _ _ (ix1 r) (fun a => by obtain rfl := Fin.fin_one_eq_zero a; rfl), hn,
    Routing.clip_word (by omega) (by decide) (by decide)]
  congr 1
  omega

theorem places_at (i : IVec S16384x1 32) (r : Fin 16384) (k : ℕ) (hk : k ≤ 256) (hi : i (ix2 r (0 : Fin 1)) = BitVec.ofNat 32 k) :
    places i (ix3 r (0 : Fin 1) (0 : Fin 1)) = BitVec.ofNat 32 k := by
  unfold places
  rw [shapeCast_apply _ _ _ (ix2 r (0 : Fin 1)) (by
    rw [Shape.rowMajor_val_three, Shape.rowMajor_val_two]
    show r.val * 1 + 0 = (r.val * 1 + 0) * 1 + 0
    omega)]
  show Scalar.select (IntOp.cmpi .slt (i (ix2 r 0)) 0#32) (IntOp.addi (i (ix2 r 0)) 257#32) (i (ix2 r 0)) = _
  rw [hi]
  have hs : IntOp.cmpi .slt (BitVec.ofNat 32 k) 0#32 = 0#1 := by
    show BitVec.ofBool (BitVec.slt _ _) = _
    rw [BitVec.slt_eq_decide, BitVec.toInt_eq_toNat_of_lt (by rw [BitVec.toNat_ofNat]; omega), BitVec.toInt_eq_toNat_of_lt (by decide), decide_eq_false]
    · rfl
    · simp only [BitVec.toNat_ofNat, Nat.zero_mod, Int.not_lt]
      exact Int.natCast_nonneg _
  rw [hs]
  rfl

/-- Where each row's place is in the row, the entry taken is the row's entry at that place. -/
theorem taken_at (x : S16384x257.Idx → Ideal .f32) (v : IVec S16384x1x1 32) (c : Fin 16384 → Fin 257)
    (hv : ∀ r : Fin 16384, v (ix3 r (0 : Fin 1) (0 : Fin 1)) = BitVec.ofNat 32 (c r).val) (r : Fin 16384) :
    taken x v (ix2 r (0 : Fin 1)) = x (ix2 r (c r)) := by
  have hi3 : ∀ i : S16384x1x1.Idx, ∃ q : Fin 16384, i = ix3 q (0 : Fin 1) (0 : Fin 1) := fun i => ⟨i 0, by
    funext a
    match a with
    | ⟨0, _⟩ => rfl
    | ⟨1, _⟩ => exact Fin.fin_one_eq_zero _
    | ⟨2, _⟩ => exact Fin.fin_one_eq_zero _⟩
  have hmask : Host.reduce IntOp.andi (andi (cmpi .sge v (broadcastInDim S16384x1x1 ![] bcast_S_S16384x1x1 (constantI S_ 32 0#32))) (cmpi .sle v (broadcastInDim S16384x1x1 ![0, 1, 2] bcast_S1x1x1_S16384x1x1_0_1_2 (broadcastInDim S1x1x1 ![2] bcast_S1_S1x1x1_2 (constantI S1 32 256#32))))) (constantI S_ 1 1#1) reducesTo_S16384x1x1_S16384x1_d2 h_S_ (ix2 r (0 : Fin 1)) = 1#1 := by
    refine Host.reduce_andi_one _ _ _ _ _ rfl fun i => ?_
    show IntOp.andi (IntOp.cmpi .sge (v i) 0#32) (IntOp.cmpi .sle (v i) 256#32) = 1#1
    obtain ⟨q, rfl⟩ := hi3 i
    rw [hv]
    have hc := (c q).isLt
    have ht : (BitVec.ofNat 32 (c q).val).toInt = ((c q).val : ℤ) := by
      rw [BitVec.toInt_eq_toNat_of_lt (by rw [BitVec.toNat_ofNat]; omega), BitVec.toNat_ofNat, Nat.mod_eq_of_lt (by omega)]
    show IntOp.andi (BitVec.ofBool (BitVec.sle 0#32 _)) (BitVec.ofBool (BitVec.sle _ 256#32)) = 1#1
    rw [BitVec.sle_eq_decide, BitVec.sle_eq_decide, ht, decide_eq_true (by simp), decide_eq_true (by
      show ((c q).val : ℤ) ≤ 256
      omega)]
    rfl
  unfold taken
  show Scalar.select (Host.reduce _ _ _ _ _ (ix2 r (0 : Fin 1))) (Host.gather _ x v (ix2 r (0 : Fin 1))) _ = _
  rw [hmask]
  show Host.gather _ x v (ix2 r (0 : Fin 1)) = _
  unfold Host.gather
  refine congrArg x (funext fun a => Fin.ext ?_)
  have hc := (c r).isLt
  match a with
  | ⟨0, _⟩ =>
    have hs : gd.start (ix2 r (0 : Fin 1) : S16384x1.Idx) v (0 : Fin 2) = 0 := by
      unfold GatherDims.start; exact dif_neg (by decide)
    have hb : gd.batchCoord (ix2 r (0 : Fin 1) : S16384x1.Idx) (0 : Fin 2) = r.val := by
      unfold GatherDims.batchCoord; exact (dif_pos (by decide)).trans rfl
    have ho : gd.offCoord (ix2 r (0 : Fin 1) : S16384x1.Idx) (0 : Fin 2) = 0 := gd.offCoord_eq_zero _ _ (by decide)
    show gd.start (ix2 r (0 : Fin 1)) v (0 : Fin 2) + gd.batchCoord (ix2 r (0 : Fin 1)) (0 : Fin 2) + gd.offCoord (ix2 r (0 : Fin 1)) (0 : Fin 2) = r.val
    rw [hs, hb, ho, Nat.zero_add, Nat.add_zero]
  | ⟨1, _⟩ =>
    have hs : gd.start (ix2 r (0 : Fin 1) : S16384x1.Idx) v (1 : Fin 2) = (c r).val := by
      unfold GatherDims.start
      refine (dif_pos (show (1 : Fin 2) ∈ gd.startIndexMap by decide)).trans ?_
      have hi : gd.siIdx (ix2 r (0 : Fin 1) : S16384x1.Idx) ⟨gd.startIndexMap.idxOf (1 : Fin 2), List.idxOf_lt_length_iff.2 (show (1 : Fin 2) ∈ gd.startIndexMap by decide)⟩
          = ix3 r (0 : Fin 1) (0 : Fin 1) := by
        funext b
        match b with
        | ⟨0, _⟩ => rfl
        | ⟨1, _⟩ => rfl
        | ⟨2, _⟩ => rfl
      rw [hi, hv, BitVec.toInt_eq_toNat_of_lt (by rw [BitVec.toNat_ofNat]; omega), BitVec.toNat_ofNat, Nat.mod_eq_of_lt (by omega)]
      show min (c r).val (257 - 1) = (c r).val
      omega
    have hb : gd.batchCoord (ix2 r (0 : Fin 1) : S16384x1.Idx) (1 : Fin 2) = 0 := gd.batchCoord_eq_zero _ _ (by decide)
    have ho : gd.offCoord (ix2 r (0 : Fin 1) : S16384x1.Idx) (1 : Fin 2) = 0 := gd.offCoord_eq_zero _ _ (by decide)
    show gd.start (ix2 r (0 : Fin 1)) v (1 : Fin 2) + gd.batchCoord (ix2 r (0 : Fin 1)) (1 : Fin 2) + gd.offCoord (ix2 r (0 : Fin 1)) (1 : Fin 2) = (c r).val
    rw [hs, hb, ho]
    rfl

theorem middles_lt (a b : S16384x256x1.Idx → Ideal .f32) (r : Fin 16384) (k : Fin 257) (hk : k.val < 256) :
    (middles a b (ix2 r k) : EReal) = (a (ix3 r ⟨k.val, hk⟩ (0 : Fin 1)) + b (ix3 r ⟨k.val, hk⟩ (0 : Fin 1)) : EReal) * half := by
  unfold middles
  rw [cast_lane, join_lt _ _ r k hk]
  exact div_two _

theorem middles_last (a b : S16384x256x1.Idx → Ideal .f32) (r : Fin 16384) :
    (middles a b (ix2 r (⟨256, by decide⟩ : Fin 257)) : EReal) = Ideal.ofBits .f32 0x41200000#32 := by
  unfold middles
  rw [cast_lane, join_last]
  show (Ideal.ofBits .f32 0x3F800000#32 : EReal) * Ideal.ofBits .f32 0x41200000#32 = _
  rw [Ideal.ofBits_one_f32, one_mul]

end Cert.Proof.Ref
-- ==== Proof.Equation.lean ====
/-
  The equation: for weights that are neither negative nor infinite, what the kernel computes of every row is the
  reference's value of that row.
-/
module

public import proofs.«01_k».proof.Proof.TileBody
public import proofs.«01_k».proof.Proof.RefValue
public import proofs.«01_k».proof.Proof.Gen.Pre_nonneg
public import Idealize.ShloMosaic.Lib.ReduceAll
public import Idealize.ShloMosaic.Lib.ValueLayoutCasts

@[expose] public section

noncomputable section

namespace Cert.Proof.Equation

open Cert.KernelIdeal Cert.KernelIdeal.Gen Cert.Proof.Spec Cert.Proof.Sums Cert.Proof.Tile
open Idealize.ShloMosaic hiding ix0 ix1 ix2 ix3
open Idealize.ShloMosaic.ValueIdx
open scoped BigOperators

/-! ## The kernel's arrays at an index -/

/-- The rows of weights read the weights. -/
theorem rows_at (w : S16384x256x1.Idx → Ideal .f32) (r : Fin 16384) (k : ℕ) (hk : k < 256) :
    wAt (shapeCast S16384x256 w shapeCasts_S16384x256x1_S16384x256) r.val k = w (ix3 r ⟨k, hk⟩ (0 : Fin 1)) := by
  unfold wAt
  refine shapeCast_apply w _ _ _ ?_
  rw [Shape.rowMajor_val_three, Shape.rowMajor_val_two]
  show (r.val * 256 + k) * 1 + 0 = r.val % 16384 * 256 + k % 256
  have := r.isLt
  rw [Nat.mod_eq_of_lt (show r.val < 16384 by omega), Nat.mod_eq_of_lt hk]
  omega

/-- The flat tables read the tables. -/
theorem table_at (a : S16384x256x1.Idx → Ideal .f32) (r : Fin 16384) (k : ℕ) (hk : k < 256) :
    tabAt (shapeCast S4194304 a shapeCasts_S16384x256x1_S4194304) (r.val * 256 + k) = a (ix3 r ⟨k, hk⟩ (0 : Fin 1)) := by
  unfold tabAt
  refine shapeCast_apply a _ _ _ ?_
  rw [Shape.rowMajor_val_three, Shape.rowMajor_val_one]
  show (r.val * 256 + k) * 1 + 0 = (r.val * 256 + k) % 4194304
  have := r.isLt
  omega

/-- A count of all 256 columns picks the far plane. -/
theorem pick_far (x y : Ideal .f32) : (pick (BitVec.ofNat 32 256) x y : EReal) = Ideal.ofBits .f32 0x41200000#32 := by
  unfold pick
  rw [show IntOp.cmpi .sge (BitVec.ofNat 32 256) 256#32 = 1#1 by decide]
  rfl

/-- A smaller count picks the middle of the two ends. -/
theorem pick_near (n : ℕ) (hn : n < 256) (x y : Ideal .f32) : (pick (BitVec.ofNat 32 n) x y : EReal) = ((x : EReal) + y) * half := by
  have h : IntOp.cmpi .sge (BitVec.ofNat 32 n) 256#32 = 0#1 := by
    show BitVec.ofBool (BitVec.sle 256#32 (BitVec.ofNat 32 n)) = _
    have ht : (BitVec.ofNat 32 n).toNat = n := by rw [BitVec.toNat_ofNat, Nat.mod_eq_of_lt (by omega)]
    rw [BitVec.sle_eq_decide, BitVec.toInt_eq_toNat_of_lt (by decide), BitVec.toInt_eq_toNat_of_lt (by rw [ht]; omega), ht, decide_eq_false]
    · rfl
    · show ¬ ((256 : ℕ) : ℤ) ≤ _
      omega
  unfold pick
  rw [h]
  rfl

/-! ## The counts agree -/

section
variable (w a b : S16384x256x1.Idx → Ideal .f32) (h0 : ∀ i, (0 : EReal) ≤ w i) (h1 : ∀ i, (w i : EReal) < ⊤)

/-- The weights as rows. -/
abbrev Wr : S16384x256.Idx → Ideal .f32 := shapeCast S16384x256 w shapeCasts_S16384x256x1_S16384x256

/-- How many of row `r`'s prefix sums are below one half. -/
def cntNat (r : ℕ) : ℕ := Nat.count (Low (wAt (Wr w) r)) 256

theorem cntNat_le (r : ℕ) : cntNat w r ≤ 256 := Nat.count_le _

include h0 h1 in
/-- The reference counts the same number, the missing weight behind the row notwithstanding. -/
theorem ref_count (r : Fin 16384) :
    Ref.lows (Ref.prefixes (Ref.wExt w)) (ix1 r) = BitVec.ofNat 32 (cntNat w r.val) := by
  let f : ℕ → EReal := fun k => if h : k < 257 then Ref.wExt w (ix2 r ⟨k, h⟩) else 0
  have hf : ∀ k : Fin 257, (Ref.wExt w (ix2 r k) : EReal) = f k.val := fun k => by
    show _ = dite (k.val < 257) _ _
    rw [dif_pos k.isLt]
  rw [Ref.lows_at _ f r fun k => Ref.prefixes_at _ f r hf k]
  congr 1
  refine count_ext (wAt (Wr w) r.val) f (fun i => h0 _) (fun i => h1 _) 256 (fun i hi => ?_) ?_
  · rw [show f i = _ from dif_pos (show i < 257 by omega), Ref.wExt_lt w r ⟨i, by omega⟩ hi, rows_at w r i hi]
  · rw [show f 256 = _ from dif_pos (by decide), Ref.wExt_last, Finset.sum_range]
    congr 1
    exact Finset.sum_congr rfl fun k _ => (rows_at w r k.val k.isLt).symm

include h0 in
/-- The kernel's count of a row. -/
theorem ker_count (r : Fin 16384) : rowCnt (Wr w) r.val = BitVec.ofNat 32 (cntNat w r.val) :=
  rowCnt_eq (Wr w) (fun i => h0 _) r.val r.isLt

include h0 h1 in
/-- The kernel's result is the reference's, at every row. -/
theorem result_eq :
    shapeCast S16384x1 (outArr (Wr w) (shapeCast S4194304 a shapeCasts_S16384x256x1_S4194304) (shapeCast S4194304 b shapeCasts_S16384x256x1_S4194304))
        shapeCasts_S16384_S16384x1
      = Ref.taken (Ref.middles a b) (Ref.places (Ref.clipped (Ref.lows (Ref.prefixes (Ref.wExt w))))) := by
  funext j
  obtain ⟨r, rfl⟩ : ∃ r : Fin 16384, j = ix2 r (0 : Fin 1) := ⟨j 0, by
    funext x
    match x with
    | ⟨0, _⟩ => rfl
    | ⟨1, _⟩ => exact Fin.fin_one_eq_zero _⟩
  have hc := cntNat_le w r.val
  rw [Ref.taken_at (Ref.middles a b) _ (fun r => ⟨cntNat w r.val, Nat.lt_succ_of_le (cntNat_le w r.val)⟩)
    (fun r => Ref.places_at _ r _ (cntNat_le w _) (Ref.clipped_at _ r _ (cntNat_le w _) (ref_count w h0 h1 r))) r]
  refine (shapeCast_a_a1_apply _ _ r 0).trans ?_
  show rowOut (Wr w) _ _ r.val = _
  unfold rowOut
  rw [rowPos_toNat _ _ r.isLt, ker_count w h0 r, BitVec.toNat_ofNat, Nat.mod_eq_of_lt (by omega)]
  by_cases h : cntNat w r.val = 256
  · refine (congrArg (fun n => pick (BitVec.ofNat 32 n) _ _) h).trans ((pick_far _ _).trans ?_)
    rw [show (⟨cntNat w r.val, Nat.lt_succ_of_le (cntNat_le w r.val)⟩ : Fin 257) = ⟨256, by decide⟩ from Fin.ext h]
    exact (Ref.middles_last a b r).symm
  · have hlt : cntNat w r.val < 256 := by omega
    rw [Nat.min_eq_left (by omega), table_at a r _ hlt, table_at b r _ hlt]
    exact (pick_near _ hlt _ _).trans (Ref.middles_lt a b r ⟨cntNat w r.val, by omega⟩ hlt).symm

end

/-! ## What the precondition says -/

/-- The precondition, read at one weight: it is not negative and not infinite. -/
theorem pre_at (w a b : S16384x256x1.Idx → Ideal .f32) (h : @Cert.Pre_nonneg.fn Cert.Pre_nonneg.Gen.facts Ideal _ w a b = fun _ => 1#1) (i : S16384x256x1.Idx) :
    (0 : EReal) ≤ w i ∧ (w i : EReal) < ⊤ := by
  have e := congrFun h ix0
  dsimp only [Cert.Pre_nonneg.fn] at e
  have key : ∀ x y : BitVec 1, IntOp.andi x y = 1#1 → x = 1#1 ∧ y = 1#1 := by decide
  haveI : Subsingleton Cert.Pre_nonneg.S_.Idx := ⟨fun x y => funext fun a => a.elim0⟩
  obtain ⟨e1, e2⟩ := key _ _ e
  have g1 := Host.reduce_andi_all _ _ _ _ _ e1 i
  have g2 := Host.reduce_andi_all _ _ _ _ _ e2 i
  have bool : ∀ c : Bool, BitVec.ofBool c = 1#1 → c = true := by decide
  constructor
  · have g : BitVec.ofBool (decide (Ideal.ofBits .f32 0x00000000#32 ≤ (w i : EReal))) = 1#1 := g1
    rw [Ideal.ofBits_zero_f32] at g
    exact of_decide_eq_true (bool _ g)
  · have g : BitVec.ofBool (decide ((w i : EReal) < Ideal.ofBits .f32 0x7F800000#32)) = 1#1 := g2
    rw [show Ideal.ofBits .f32 0x7F800000#32 = (⊤ : EReal) by simp [Ideal.ofBits, Ideal.ieee]] at g
    exact of_decide_eq_true (bool _ g)

end Cert.Proof.Equation
-- ==== Proof.lean ====
/-
  The claims: the kernel's frames from its one run, the reference's from its own, and the equation of the two results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nonneg
public import Idealize.ShloMosaic.Adequacy
public import Idealize.ShloMosaic.Init
public import proofs.«01_k».proof.Proof.Launch
public import proofs.«01_k».proof.Proof.Equation

@[expose] public section

noncomputable section

namespace Cert.Proof

open Idealize.ShloMosaic Idealize.SL.Sem

/-- The kernel at machine words runs, leaves its arguments alone and ends quiescent. -/
theorem frame_kernel : @Cert.quiescent_Kernel Cert.Kernel.Gen.facts := fun m ρ _ =>
  (θ_run Cert.KernelIdeal.defs _ _).mono (fun _ h => ⟨fun c => ⟨(h.1 c).1, (h.1 c).2.1, (h.1 c).2.2.1⟩, h.2⟩) (Launch.run_main (F := Bits) m ρ)

/-- The kernel at extended reals does the same. -/
theorem frame_kernelIdeal : @Cert.quiescent_KernelIdeal Cert.KernelIdeal.Gen.facts := fun m ρ _ =>
  (θ_run Cert.KernelIdeal.defs _ _).mono (fun _ h => ⟨fun c => ⟨(h.1 c).1, (h.1 c).2.1, (h.1 c).2.2.1⟩, h.2⟩) (Launch.run_main (F := Ideal) m ρ)

/-- The reference runs, leaves its arguments alone and ends quiescent. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩) (Cert.ReferenceIdeal.Value.run (F := Ideal) m ρ)

/-- The two results are equal: from memories that agree on the arguments, with weights neither negative nor infinite, the
    kernel and the reference both run, end with the same result and leave their arguments alone. -/
theorem same_result : @Cert.algebraic_KernelIdeal_ReferenceIdeal_pre_nonneg Cert.KernelIdeal.Gen.facts Cert.ReferenceIdeal.Gen.facts Cert.Pre_nonneg.Gen.facts := by
  intro m g m' g' hpre hagree
  refine ⟨fun c => Launch.Rm (F := Ideal) m c, ?_, ?_⟩
  · exact (θ_run Cert.KernelIdeal.defs _ _).mono (fun _ h c => ⟨(h.1 c).2.2.2, (h.1 c).1, (h.1 c).2.1, (h.1 c).2.2.1⟩) (Launch.run_main (F := Ideal) m g)
  · refine (θ_run Cert.ReferenceIdeal.defs _ _).mono (fun r h c => ⟨(h c).1.trans ?_, (h c).2⟩) (Cert.ReferenceIdeal.Value.run (F := Ideal) m' g')
    have hw := fun i => Equation.pre_at _ _ _ (hpre c) i
    obtain ⟨e0, e1, e2⟩ := hagree c
    refine (Ref.out_eq m' c).trans ?_
    rw [e0, e1, e2]
    exact (Equation.result_eq _ _ _ (fun i => (hw i).1) (fun i => (hw i).2)).symm

/-- Everything claimed. -/
theorem claim : Cert.Claim := ⟨Cert.Kernel.Gen.facts, Cert.KernelIdeal.Gen.facts, Cert.ReferenceIdeal.Gen.facts, Cert.Pre_nonneg.Gen.facts, frame_kernel, frame_kernelIdeal,
  fun m ρ _ => frame_kernelIdeal m ρ trivial, frame_reference, fun m ρ _ => frame_reference m ρ trivial, trivial, same_result⟩

end Cert.Proof

end
